-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  IdealRules.named_const.Statement Cert.KernelIdeal.κ "log_gamma3" .f32 0xBB80402B#32 ((Real.log (255 / 256) : ℝ) : EReal)
  ∧ IdealRules.named_const.Statement Cert.KernelIdeal.κ "log_gamma2" .f32 0xBC0080AC#32 ((Real.log (127 / 128) : ℝ) : EReal)
  ∧ IdealRules.named_const.Statement Cert.KernelIdeal.κ "log_gamma1" .f32 0xBC8102B3#32 ((Real.log (63 / 64) : ℝ) : EReal)
  ∧ IdealRules.named_const.Statement Cert.KernelIdeal.κ "log_gamma0" .f32 0xBD020AEC#32 ((Real.log (31 / 32) : ℝ) : EReal)
  ∧ IdealRules.named_const.Statement Cert.KernelIdeal.κ "gamma_chunk3" .f32 0x3F474682#32 ((10436900611138725869172867285320967420499386398293333045633692797639857278619179096472846825397665828940838712011497657616843071082257665693759918212890625 / 13407807929942597099574024998205846127479365820592393377723561443721764030073546976801874298166903427690031858186486050853753882811946569946433649006084096 : ℝ) : EReal)
  ∧ IdealRules.named_const.Statement Cert.KernelIdeal.κ "gamma_chunk2" .f32 0x3F1AF7A1#32 ((439985273984774139364885786774155225074372621425249766976946157772109425125407741241214744259687760072793219732307971501512893104906241 / 726838724295606890549323807888004534353641360687318060281490199180639288113397923326191050713763565560762521606266177933534601628614656 : ℝ) : EReal)
  ∧ IdealRules.named_const.Statement Cert.KernelIdeal.κ "gamma_chunk1" .f32 0x3EBADF84#32 ((14381201289858923833733732277241427911251598557516928831287151963615866190845260542210496569296551598609485715599361 / 39402006196394479212279040100143613805079739270465446667948293404245721771497210611414266254884915640806627990306816 : ℝ) : EReal)
  ∧ IdealRules.named_const.Statement Cert.KernelIdeal.κ "gamma_chunk0" .f32 0x3E063AE5#32 ((279993793990258235750468749959300213014699042596341116563305503247751586492770004816505534904321 / 2135987035920910082395021706169552114602704522356652769947041607822219725780640550022962086936576 : ℝ) : EReal)

def algebraic_KernelIdeal_ReferenceIdeal_on_retention_columns [hKernelIdeal : Cert.KernelIdeal.Facts] [hReferenceIdeal : Cert.ReferenceIdeal.Facts] [hOn_retention_columns : Cert.On_retention_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 8256, 1024]⟩ : Shape).Idx, (Cert.On_retention_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) i = 1#1 → r.2.mem ((c.tc : Thread Cert.KernelIdeal.nD Cert.KernelIdeal.τ).loc Cert.KernelIdeal.main_v55) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 8256, 1024]⟩ : Shape).Idx, (Cert.On_retention_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) i = 1#1 → r.2.mem ((c.tc : Thread Cert.ReferenceIdeal.nD Cert.ReferenceIdeal.τ).loc Cert.ReferenceIdeal.main_v167) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hOn_retention_columns : Cert.On_retention_columns.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_on_retention_columns (hKernelIdeal := hKernelIdeal) (hReferenceIdeal := hReferenceIdeal) (hOn_retention_columns := hOn_retention_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_retention_columns.lean ====
abbrev S4x8256x2056 : Shape := ⟨3, ![4, 8256, 2056]⟩
abbrev S4x8256x896 : Shape := ⟨3, ![4, 8256, 896]⟩
abbrev S4x8256x768 : Shape := ⟨3, ![4, 8256, 768]⟩
abbrev S4x1536 : Shape := ⟨2, ![4, 1536]⟩
abbrev S4 : Shape := ⟨1, ![4]⟩
abbrev S128 : Shape := ⟨1, ![128]⟩
abbrev S896 : Shape := ⟨1, ![896]⟩
abbrev S256 : Shape := ⟨1, ![256]⟩
abbrev S32x256 : Shape := ⟨2, ![32, 256]⟩
abbrev S64x256 : Shape := ⟨2, ![64, 256]⟩
abbrev S4x64 : Shape := ⟨2, ![4, 64]⟩
abbrev S4x8256x1024 : Shape := ⟨3, ![4, 8256, 1024]⟩
abbrev S_ : Shape := ⟨0, ![]⟩

class Facts : Prop where
  bcast_S_S4x8256x1024 : S_.BroadcastsInDim S4x8256x1024 (![] : Fin 0 → Fin S4x8256x1024.rank)

variable [Facts]

def fn {F : FTy → Type} [FloatOps F] (main_arg0 : FVec F S4x8256x2056 .f32) (main_arg1 : FVec F S4x8256x896 .f32) (main_arg2 : FVec F S4x8256x768 .f32) (main_arg3 : FVec F S4x1536 .f32) (main_arg4 : FVec F S4 .f32) (main_arg5 : FVec F S4 .f32) (main_arg6 : FVec F S128 .f32) (main_arg7 : FVec F S896 .f32) (main_arg8 : FVec F S256 .f32) (main_arg9 : FVec F S32x256 .f32) (main_arg10 : FVec F S256 .f32) (main_arg11 : FVec F S32x256 .f32) (main_arg12 : FVec F S64x256 .f32) (main_arg13 : FVec F S256 .f32) (main_arg14 : FVec F S256 .f32) (main_arg15 : FVec F S4x64 .f32) (main_arg16 : FVec F S256 .f32) (main_arg17 : FVec F S256 .f32) (main_arg18 : FVec F S256 .f32) (main_arg19 : FVec F S256 .f32) : IVec S4x8256x1024 1 :=
  let main_v0 : IVec S4x8256x1024 32 := iotaInDim S4x8256x1024 32 2
  let main_c : IVec S_ 32 := constantI S_ 32 768#32
  let main_v1 : IVec S4x8256x1024 32 := broadcastInDim S4x8256x1024 ![] bcast_S_S4x8256x1024 main_c
  let main_v2 : IVec S4x8256x1024 1 := cmpi .sge main_v0 main_v1
  main_v2
-- ==== Kernel.lean ====
abbrev S4x8256x2056 : Shape := ⟨3, ![4, 8256, 2056]⟩
abbrev S4x8256x896 : Shape := ⟨3, ![4, 8256, 896]⟩
abbrev S4x8256x768 : Shape := ⟨3, ![4, 8256, 768]⟩
abbrev S4x1536 : Shape := ⟨2, ![4, 1536]⟩
abbrev S4 : Shape := ⟨1, ![4]⟩
abbrev S128 : Shape := ⟨1, ![128]⟩
abbrev S896 : Shape := ⟨1, ![896]⟩
abbrev S256 : Shape := ⟨1, ![256]⟩
abbrev S32x256 : Shape := ⟨2, ![32, 256]⟩
abbrev S64x256 : Shape := ⟨2, ![64, 256]⟩
abbrev S4x64 : Shape := ⟨2, ![4, 64]⟩
abbrev S_ : Shape := ⟨0, ![]⟩
abbrev S15 : Shape := ⟨1, ![15]⟩
abbrev S1 : Shape := ⟨1, ![1]⟩
abbrev S16 : Shape := ⟨1, ![16]⟩
abbrev S8256 : Shape := ⟨1, ![8256]⟩
abbrev S8256x1 : Shape := ⟨2, ![8256, 1]⟩
abbrev S1x16 : Shape := ⟨2, ![1, 16]⟩
abbrev S8256x16 : Shape := ⟨2, ![8256, 16]⟩
abbrev S8256x32 : Shape := ⟨2, ![8256, 32]⟩
abbrev S1x8256x1x32 : Shape := ⟨4, ![1, 8256, 1, 32]⟩
abbrev S1x8256x4x32 : Shape := ⟨4, ![1, 8256, 4, 32]⟩
abbrev S8256x128 : Shape := ⟨2, ![8256, 128]⟩
abbrev S4x8256x120 : Shape := ⟨3, ![4, 8256, 120]⟩
abbrev S4x8256x2176 : Shape := ⟨3, ![4, 8256, 2176]⟩
abbrev S4x8192x2176 : Shape := ⟨3, ![4, 8192, 2176]⟩
abbrev S4x64x2176 : Shape := ⟨3, ![4, 64, 2176]⟩
abbrev S4x8192x896 : Shape := ⟨3, ![4, 8192, 896]⟩
abbrev S4x64x896 : Shape := ⟨3, ![4, 64, 896]⟩
abbrev S4x8192x768 : Shape := ⟨3, ![4, 8192, 768]⟩
abbrev S4x64x768 : Shape := ⟨3, ![4, 64, 768]⟩
abbrev S1x128 : Shape := ⟨2, ![1, 128]⟩
abbrev S2 : Shape := ⟨1, ![2]⟩
abbrev S1x896 : Shape := ⟨2, ![1, 896]⟩
abbrev S1x256 : Shape := ⟨2, ![1, 256]⟩
abbrev S4x8256x1024 : Shape := ⟨3, ![4, 8256, 1024]⟩
abbrev S64x128 : Shape := ⟨2, ![64, 128]⟩
abbrev S4x64x1024 : Shape := ⟨3, ![4, 64, 1024]⟩
abbrev S4x72x1536 : Shape := ⟨3, ![4, 72, 1536]⟩
abbrev S16x128x128 : Shape := ⟨3, ![16, 128, 128]⟩
abbrev S4x72x896 : Shape := ⟨3, ![4, 72, 896]⟩
abbrev S8x128x128 : Shape := ⟨3, ![8, 128, 128]⟩
abbrev S4x128x256 : Shape := ⟨3, ![4, 128, 256]⟩
abbrev S4x8x1536 : Shape := ⟨3, ![4, 8, 1536]⟩
abbrev S4x8x896 : Shape := ⟨3, ![4, 8, 896]⟩
abbrev S64x64 : Shape := ⟨2, ![64, 64]⟩
abbrev S4x64x1536 : Shape := ⟨3, ![4, 64, 1536]⟩
abbrev S1x1536 : Shape := ⟨2, ![1, 1536]⟩
abbrev S1x1x1536 : Shape := ⟨3, ![1, 1, 1536]⟩
abbrev S256x256 : Shape := ⟨2, ![256, 256]⟩
abbrev S1x1x896 : Shape := ⟨3, ![1, 1, 896]⟩
abbrev S256x896 : Shape := ⟨2, ![256, 896]⟩
abbrev S256x32 : Shape := ⟨2, ![256, 32]⟩
abbrev S256x64 : Shape := ⟨2, ![256, 64]⟩
abbrev S4x64x128 : Shape := ⟨3, ![4, 64, 128]⟩
abbrev S128x256 : Shape := ⟨2, ![128, 256]⟩
abbrev S256x128 : Shape := ⟨2, ![256, 128]⟩
abbrev S4x64x1 : Shape := ⟨3, ![4, 64, 1]⟩
abbrev S16x64x1 : Shape := ⟨3, ![16, 64, 1]⟩
abbrev S1x64 : Shape := ⟨2, ![1, 64]⟩
abbrev S1x1x64 : Shape := ⟨3, ![1, 1, 64]⟩
abbrev S16x1x64 : Shape := ⟨3, ![16, 1, 64]⟩
abbrev S4x64x256 : Shape := ⟨3, ![4, 64, 256]⟩
abbrev S4x1x256 : Shape := ⟨3, ![4, 1, 256]⟩
abbrev S1x64x128 : Shape := ⟨3, ![1, 64, 128]⟩
abbrev S1x1x128 : Shape := ⟨3, ![1, 1, 128]⟩
abbrev S4x256x128 : Shape := ⟨3, ![4, 256, 128]⟩
abbrev S1x64x256 : Shape := ⟨3, ![1, 64, 256]⟩
abbrev S1x1x256 : Shape := ⟨3, ![1, 1, 256]⟩
abbrev S4x256x256 : Shape := ⟨3, ![4, 256, 256]⟩
abbrev S1x128x256 : Shape := ⟨3, ![1, 128, 256]⟩
abbrev S16x64x128 : Shape := ⟨3, ![16, 64, 128]⟩
abbrev S128x128 : Shape := ⟨2, ![128, 128]⟩
abbrev S1024x128 : Shape := ⟨2, ![1024, 128]⟩
abbrev S16x64x64 : Shape := ⟨3, ![16, 64, 64]⟩
abbrev S1x64x64 : Shape := ⟨3, ![1, 64, 64]⟩
abbrev S8x64x128 : Shape := ⟨3, ![8, 64, 128]⟩
abbrev S4x1x128 : Shape := ⟨3, ![4, 1, 128]⟩
abbrev S8x1x128 : Shape := ⟨3, ![8, 1, 128]⟩
abbrev S16x128x64 : Shape := ⟨3, ![16, 128, 64]⟩
abbrev S8x64x64 : Shape := ⟨3, ![8, 64, 64]⟩
abbrev S16x64x256 : Shape := ⟨3, ![16, 64, 256]⟩
abbrev S16x1x1 : Shape := ⟨3, ![16, 1, 1]⟩
abbrev S1x128x128 : Shape := ⟨3, ![1, 128, 128]⟩
abbrev S4x64x512 : Shape := ⟨3, ![4, 64, 512]⟩

abbrev nBuf : Space → Nat
  | .hbm => 107
  | .vmem => 34
  | .smem => 0
  | _ => 0

abbrev bufTy : (tb : Table) → Fin (tcTables nBuf tb) → BufTy
  | .hbm, ⟨0, _⟩ => ⟨S4x8256x2056, .f32⟩
  | .hbm, ⟨1, _⟩ => ⟨S4x8256x896, .f32⟩
  | .hbm, ⟨2, _⟩ => ⟨S4x8256x768, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S896, .f32⟩
  | .hbm, ⟨8, _⟩ => ⟨S256, .f32⟩
  | .hbm, ⟨9, _⟩ => ⟨S32x256, .f32⟩
  | .hbm, ⟨10, _⟩ => ⟨S256, .f32⟩
  | .hbm, ⟨11, _⟩ => ⟨S32x256, .f32⟩
  | .hbm, ⟨12, _⟩ => ⟨S64x256, .f32⟩
  | .hbm, ⟨13, _⟩ => ⟨S256, .f32⟩
  | .hbm, ⟨14, _⟩ => ⟨S256, .f32⟩
  | .hbm, ⟨15, _⟩ => ⟨S4x64, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S15, .f32⟩
  | .hbm, ⟨28, _⟩ => ⟨S_, .f32⟩
  | .hbm, ⟨29, _⟩ => ⟨S15, .f32⟩
  | .hbm, ⟨30, _⟩ => ⟨S15, .f32⟩
  | .hbm, ⟨31, _⟩ => ⟨S1, .f32⟩
  | .hbm, ⟨32, _⟩ => ⟨S_, .f32⟩
  | .hbm, ⟨33, _⟩ => ⟨S15, .f32⟩
  | .hbm, ⟨34, _⟩ => ⟨S15, .f32⟩
  | .hbm, ⟨35, _⟩ => ⟨S15, .f32⟩
  | .hbm, ⟨36, _⟩ => ⟨S15, .f32⟩
  | .hbm, ⟨37, _⟩ => ⟨S1, .f32⟩
  | .hbm, ⟨38, _⟩ => ⟨S15, .f32⟩
  | .hbm, ⟨39, _⟩ => ⟨S15, .f32⟩
  | .hbm, ⟨40, _⟩ => ⟨S15, .f32⟩
  | .hbm, ⟨41, _⟩ => ⟨S1, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S8256, .f32⟩
  | .hbm, ⟨50, _⟩ => ⟨S8256x1, .f32⟩
  | .hbm, ⟨51, _⟩ => ⟨S1x16, .f32⟩
  | .hbm, ⟨52, _⟩ => ⟨S8256x16, .f32⟩
  | .hbm, ⟨53, _⟩ => ⟨S8256x16, .f32⟩
  | .hbm, ⟨54, _⟩ => ⟨S8256x16, .f32⟩
  | .hbm, ⟨55, _⟩ => ⟨S8256x16, .f32⟩
  | .hbm, ⟨56, _⟩ => ⟨S8256x16, .f32⟩
  | .hbm, ⟨57, _⟩ => ⟨S8256x32, .f32⟩
  | .hbm, ⟨58, _⟩ => ⟨S1x8256x1x32, .f32⟩
  | .hbm, ⟨59, _⟩ => ⟨S1x8256x4x32, .f32⟩
  | .hbm, ⟨60, _⟩ => ⟨S8256x128, .f32⟩
  | .hbm, ⟨61, _⟩ => ⟨S8256x16, .f32⟩
  | .hbm, ⟨62, _⟩ => ⟨S8256x32, .f32⟩
  | .hbm, ⟨63, _⟩ => ⟨S1x8256x1x32, .f32⟩
  | .hbm, ⟨64, _⟩ => ⟨S1x8256x4x32, .f32⟩
  | .hbm, ⟨65, _⟩ => ⟨S8256x128, .f32⟩
  | .hbm, ⟨66, _⟩ => ⟨S_, .f32⟩
  | .hbm, ⟨67, _⟩ => ⟨S4x8256x120, .f32⟩
  | .hbm, ⟨68, _⟩ => ⟨S4x8256x2176, .f32⟩
  | .hbm, ⟨69, _⟩ => ⟨S256, .f32⟩
  | .hbm, ⟨70, _⟩ => ⟨S4x8192x2176, .f32⟩
  | .hbm, ⟨71, _⟩ => ⟨S4x64x2176, .f32⟩
  | .hbm, ⟨72, _⟩ => ⟨S4x8256x2176, .f32⟩
  | .hbm, ⟨73, _⟩ => ⟨S4x8192x896, .f32⟩
  | .hbm, ⟨74, _⟩ => ⟨S4x64x896, .f32⟩
  | .hbm, ⟨75, _⟩ => ⟨S4x8256x896, .f32⟩
  | .hbm, ⟨76, _⟩ => ⟨S4x8192x768, .f32⟩
  | .hbm, ⟨77, _⟩ => ⟨S4x64x768, .f32⟩
  | .hbm, ⟨78, _⟩ => ⟨S4x8256x768, .f32⟩
  | .hbm, ⟨79, _⟩ => ⟨S_, .f32⟩
  | .hbm, ⟨80, _⟩ => ⟨S1x128, .f32⟩
  | .hbm, ⟨81, _⟩ => ⟨S_, .i32⟩
  | .hbm, ⟨82, _⟩ => ⟨S1, .i32⟩
  | .hbm, ⟨83, _⟩ => ⟨S_, .i32⟩
  | .hbm, ⟨84, _⟩ => ⟨S1, .i32⟩
  | .hbm, ⟨85, _⟩ => ⟨S2, .i32⟩
  | .hbm, ⟨86, _⟩ => ⟨S1x128, .f32⟩
  | .hbm, ⟨87, _⟩ => ⟨S_, .f32⟩
  | .hbm, ⟨88, _⟩ => ⟨S1x128, .f32⟩
  | .hbm, ⟨89, _⟩ => ⟨S_, .i32⟩
  | .hbm, ⟨90, _⟩ => ⟨S1, .i32⟩
  | .hbm, ⟨91, _⟩ => ⟨S_, .i32⟩
  | .hbm, ⟨92, _⟩ => ⟨S1, .i32⟩
  | .hbm, ⟨93, _⟩ => ⟨S2, .i32⟩
  | .hbm, ⟨94, _⟩ => ⟨S1x128, .f32⟩
  | .hbm, ⟨95, _⟩ => ⟨S1x128, .f32⟩
  | .hbm, ⟨96, _⟩ => ⟨S1x896, .f32⟩
  | .hbm, ⟨97, _⟩ => ⟨S1x256, .f32⟩
  | .hbm, ⟨98, _⟩ => ⟨S1x256, .f32⟩
  | .hbm, ⟨99, _⟩ => ⟨S1x256, .f32⟩
  | .hbm, ⟨100, _⟩ => ⟨S1x256, .f32⟩
  | .hbm, ⟨101, _⟩ => ⟨S1x256, .f32⟩
  | .hbm, ⟨102, _⟩ => ⟨S1x256, .f32⟩
  | .hbm, ⟨103, _⟩ => ⟨S1x256, .f32⟩
  | .hbm, ⟨104, _⟩ => ⟨S1x256, .f32⟩
  | .hbm, ⟨105, _⟩ => ⟨S1x256, .f32⟩
  | .hbm, ⟨106, _⟩ => ⟨S4x8256x1024, .bf16⟩
  | .local _ .vmem, ⟨0, _⟩ => ⟨S4x64x2176, .f32⟩
  | .local _ .vmem, ⟨1, _⟩ => ⟨S4x64x2176, .f32⟩
  | .local _ .vmem, ⟨2, _⟩ => ⟨S4x64x896, .f32⟩
  | .local _ .vmem, ⟨3, _⟩ => ⟨S4x64x896, .f32⟩
  | .local _ .vmem, ⟨4, _⟩ => ⟨S4x64x768, .f32⟩
  | .local _ .vmem, ⟨5, _⟩ => ⟨S4x64x768, .f32⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x896, .f32⟩
  | .local _ .vmem, ⟨11, _⟩ => ⟨S1x256, .f32⟩
  | .local _ .vmem, ⟨12, _⟩ => ⟨S32x256, .f32⟩
  | .local _ .vmem, ⟨13, _⟩ => ⟨S1x256, .f32⟩
  | .local _ .vmem, ⟨14, _⟩ => ⟨S32x256, .f32⟩
  | .local _ .vmem, ⟨15, _⟩ => ⟨S64x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | .local _ .vmem, ⟨24, _⟩ => ⟨S64x128, .f32⟩
  | .local _ .vmem, ⟨25, _⟩ => ⟨S1x256, .f32⟩
  | .local _ .vmem, ⟨26, _⟩ => ⟨S1x256, .f32⟩
  | .local _ .vmem, ⟨27, _⟩ => ⟨S4x64x1024, .bf16⟩
  | .local _ .vmem, ⟨28, _⟩ => ⟨S4x64x1024, .bf16⟩
  | .local _ .vmem, ⟨29, _⟩ => ⟨S4x72x1536, .f32⟩
  | .local _ .vmem, ⟨30, _⟩ => ⟨S16x128x128, .f32⟩
  | .local _ .vmem, ⟨31, _⟩ => ⟨S4x72x896, .f32⟩
  | .local _ .vmem, ⟨32, _⟩ => ⟨S8x128x128, .f32⟩
  | .local _ .vmem, ⟨33, _⟩ => ⟨S4x128x256, .f32⟩
  | _, _ => ⟨S4x8256x2056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_cst : Ref sig .tc := ⟨.hbm, 25, rfl⟩
abbrev main_call0_v3 : Ref sig .tc := ⟨.hbm, 26, rfl⟩
abbrev main_call0_v4 : Ref sig .tc := ⟨.hbm, 27, rfl⟩
abbrev main_call0_cst_0 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_v0 : Ref sig .tc := ⟨.hbm, 42, rfl⟩
abbrev main_cst_1 : Ref sig .tc := ⟨.hbm, 43, rfl⟩
abbrev main_v1 : Ref sig .tc := ⟨.hbm, 44, rfl⟩
abbrev main_v2 : Ref sig .tc := ⟨.hbm, 45, rfl⟩
abbrev main_cst_2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_3 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_4 : Ref sig .tc := ⟨.hbm, 79, rfl⟩
abbrev main_v34 : Ref sig .tc := ⟨.hbm, 80, rfl⟩
abbrev main_c : Ref sig .tc := ⟨.hbm, 81, rfl⟩
abbrev main_v35 : Ref sig .tc := ⟨.hbm, 82, rfl⟩
abbrev main_c_5 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_6 : Ref sig .tc := ⟨.hbm, 87, rfl⟩
abbrev main_v39 : Ref sig .tc := ⟨.hbm, 88, rfl⟩
abbrev main_c_7 : Ref sig .tc := ⟨.hbm, 89, rfl⟩
abbrev main_v40 : Ref sig .tc := ⟨.hbm, 90, rfl⟩
abbrev main_c_8 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg22_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem21_0 : DmaSem sig := 26
abbrev cc0_sem22_0 : DmaSem sig := 27
abbrev cc0_sem22_1 : DmaSem sig := 28

abbrev nD : Nat := 1
abbrev τ : Topo := Topo.v7x

variable {F : FTy → Type} [FloatOps F]

abbrev grid0 : Pipeline.Grid := ⟨1, ![129], ![false]⟩

def cc0_transform_0 (i : grid0.Coords) : Fin 3 → Nat :=
  let arg0 : BitVec 32 := BitVec.ofNat 32 (i 0).val
  let c129_i32 : BitVec 32 := 129#32
  let v0 : BitVec 32 := Scalar.addi arg0 c129_i32
  let c1_i32 : BitVec 32 := 1#32
  let v1 : BitVec 32 := Scalar.subi v0 c1_i32
  let c129_i32_0 : BitVec 32 := 129#32
  let c0_i32 : BitVec 32 := 0#32
  let v2 : BitVec 1 := Scalar.cmpi .eq c129_i32_0 c0_i32
  let c1_i32_1 : BitVec 32 := 1#32
  let v3 : BitVec 32 := Scalar.select v2 c1_i32_1 c129_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![c0_i32_5.toNat, v11.toNat, c0_i32_6.toNat]

def cc0_transform_1 (i : grid0.Coords) : Fin 3 → Nat :=
  let arg0 : BitVec 32 := BitVec.ofNat 32 (i 0).val
  let c129_i32 : BitVec 32 := 129#32
  let v0 : BitVec 32 := Scalar.addi arg0 c129_i32
  let c1_i32 : BitVec 32 := 1#32
  let v1 : BitVec 32 := Scalar.subi v0 c1_i32
  let c129_i32_0 : BitVec 32 := 129#32
  let c0_i32 : BitVec 32 := 0#32
  let v2 : BitVec 1 := Scalar.cmpi .eq c129_i32_0 c0_i32
  let c1_i32_1 : BitVec 32 := 1#32
  let v3 : BitVec 32 := Scalar.select v2 c1_i32_1 c129_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![c0_i32_5.toNat, v11.toNat, c0_i32_6.toNat]

def cc0_transform_2 (i : grid0.Coords) : Fin 3 → Nat :=
  let arg0 : BitVec 32 := BitVec.ofNat 32 (i 0).val
  let c129_i32 : BitVec 32 := 129#32
  let v0 : BitVec 32 := Scalar.addi arg0 c129_i32
  let c1_i32 : BitVec 32 := 1#32
  let v1 : BitVec 32 := Scalar.subi v0 c1_i32
  let c129_i32_0 : BitVec 32 := 129#32
  let c0_i32 : BitVec 32 := 0#32
  let v2 : BitVec 1 := Scalar.cmpi .eq c129_i32_0 c0_i32
  let c1_i32_1 : BitVec 32 := 1#32
  let v3 : BitVec 32 := Scalar.select v2 c1_i32_1 c129_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![c0_i32_5.toNat, v11.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c129_i32 : BitVec 32 := 129#32
  let v0 : BitVec 32 := Scalar.addi arg0 c129_i32
  let c1_i32 : BitVec 32 := 1#32
  let v1 : BitVec 32 := Scalar.subi v0 c1_i32
  let c129_i32_0 : BitVec 32 := 129#32
  let c0_i32 : BitVec 32 := 0#32
  let v2 : BitVec 1 := Scalar.cmpi .eq c129_i32_0 c0_i32
  let c1_i32_1 : BitVec 32 := 1#32
  let v3 : BitVec 32 := Scalar.select v2 c1_i32_1 c129_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![c0_i32_5.toNat, v11.toNat, c0_i32_6.toNat]

abbrev stage0_0 : Fin 2 → Memref sig .tc .vmem S4x64x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x896 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S4x64x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== KernelIdeal.lean ====
variable {F : FTy → Type} [FloatOps F] [Named F]
def κ : String → Option EReal := fun
  | "gamma_chunk0" => some ((279993793990258235750468749959300213014699042596341116563305503247751586492770004816505534904321 / 2135987035920910082395021706169552114602704522356652769947041607822219725780640550022962086936576 : ℝ) : EReal)
  | "gamma_chunk1" => some ((14381201289858923833733732277241427911251598557516928831287151963615866190845260542210496569296551598609485715599361 / 39402006196394479212279040100143613805079739270465446667948293404245721771497210611414266254884915640806627990306816 : ℝ) : EReal)
  | "gamma_chunk2" => some ((439985273984774139364885786774155225074372621425249766976946157772109425125407741241214744259687760072793219732307971501512893104906241 / 726838724295606890549323807888004534353641360687318060281490199180639288113397923326191050713763565560762521606266177933534601628614656 : ℝ) : EReal)
  | "gamma_chunk3" => some ((10436900611138725869172867285320967420499386398293333045633692797639857278619179096472846825397665828940838712011497657616843071082257665693759918212890625 / 13407807929942597099574024998205846127479365820592393377723561443721764030073546976801874298166903427690031858186486050853753882811946569946433649006084096 : ℝ) : EReal)
  | "log_gamma0" => some ((Real.log (31 / 32) : ℝ) : EReal)
  | "log_gamma1" => some ((Real.log (63 / 64) : ℝ) : EReal)
  | "log_gamma2" => some ((Real.log (127 / 128) : ℝ) : EReal)
  | "log_gamma3" => some ((Real.log (255 / 256) : ℝ) : EReal)
  | _ => none
-- ==== ReferenceIdeal.lean ====
abbrev S4x8256x2056 : Shape := ⟨3, ![4, 8256, 2056]⟩
abbrev S4x8256x896 : Shape := ⟨3, ![4, 8256, 896]⟩
abbrev S4x8256x768 : Shape := ⟨3, ![4, 8256, 768]⟩
abbrev S4x1536 : Shape := ⟨2, ![4, 1536]⟩
abbrev S4 : Shape := ⟨1, ![4]⟩
abbrev S128 : Shape := ⟨1, ![128]⟩
abbrev S896 : Shape := ⟨1, ![896]⟩
abbrev S256 : Shape := ⟨1, ![256]⟩
abbrev S32x256 : Shape := ⟨2, ![32, 256]⟩
abbrev S64x256 : Shape := ⟨2, ![64, 256]⟩
abbrev S4x64 : Shape := ⟨2, ![4, 64]⟩
abbrev S4x8256x128 : Shape := ⟨3, ![4, 8256, 128]⟩
abbrev S4x8256x256 : Shape := ⟨3, ![4, 8256, 256]⟩
abbrev S4x8256x4x32 : Shape := ⟨4, ![4, 8256, 4, 32]⟩
abbrev S_ : Shape := ⟨0, ![]⟩
abbrev S15 : Shape := ⟨1, ![15]⟩
abbrev S1 : Shape := ⟨1, ![1]⟩
abbrev S16 : Shape := ⟨1, ![16]⟩
abbrev S8256 : Shape := ⟨1, ![8256]⟩
abbrev S8256x1 : Shape := ⟨2, ![8256, 1]⟩
abbrev S1x16 : Shape := ⟨2, ![1, 16]⟩
abbrev S8256x16 : Shape := ⟨2, ![8256, 16]⟩
abbrev S1x8256x1x16 : Shape := ⟨4, ![1, 8256, 1, 16]⟩
abbrev S4x8256x4x16 : Shape := ⟨4, ![4, 8256, 4, 16]⟩
abbrev S4x8256x4x64 : Shape := ⟨4, ![4, 8256, 4, 64]⟩
abbrev S4x129x64x4x32 : Shape := ⟨5, ![4, 129, 64, 4, 32]⟩
abbrev S129x4x4x64x32 : Shape := ⟨5, ![129, 4, 4, 64, 32]⟩
abbrev S4x129x64x4x64 : Shape := ⟨5, ![4, 129, 64, 4, 64]⟩
abbrev S129x4x4x64x64 : Shape := ⟨5, ![129, 4, 4, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S1x1x4x64x64 : Shape := ⟨5, ![1, 1, 4, 64, 64]⟩
abbrev S4x1 : Shape := ⟨2, ![4, 1]⟩
abbrev S4x64x1 : Shape := ⟨3, ![4, 64, 1]⟩
abbrev S1x1x4x64x1 : Shape := ⟨5, ![1, 1, 4, 64, 1]⟩
abbrev S4x4x32x64 : Shape := ⟨4, ![4, 4, 32, 64]⟩
abbrev S1x4x4x64x32 : Shape := ⟨5, ![1, 4, 4, 64, 32]⟩
abbrev S4x4x64x32 : Shape := ⟨4, ![4, 4, 64, 32]⟩
abbrev S1x4x4x64x64 : Shape := ⟨5, ![1, 4, 4, 64, 64]⟩
abbrev S4x4x64x64 : Shape := ⟨4, ![4, 4, 64, 64]⟩
abbrev S1x4x1x1 : Shape := ⟨4, ![1, 4, 1, 1]⟩
abbrev S4x8256x4 : Shape := ⟨3, ![4, 8256, 4]⟩
abbrev S4x8256x4x1 : Shape := ⟨4, ![4, 8256, 4, 1]⟩
abbrev S1x1x256 : Shape := ⟨3, ![1, 1, 256]⟩
abbrev S4x8256x1024 : Shape := ⟨3, ![4, 8256, 1024]⟩
abbrev S4x8192x1024 : Shape := ⟨3, ![4, 8192, 1024]⟩
abbrev S4x64x1024 : Shape := ⟨3, ![4, 64, 1024]⟩

abbrev nBuf : Space → Nat
  | .hbm => 306
  | .vmem => 0
  | .smem => 0
  | _ => 0

abbrev hbmTy0_0 (i : Nat) : BufTy := match i % 128 with
  | 0 => ⟨S4x8256x2056, .f32⟩
  | 1 => ⟨S4x8256x896, .f32⟩
  | 2 => ⟨S4x8256x768, .f32⟩
  | 3 => ⟨S4x1536, .f32⟩
  | 4 => ⟨S4, .f32⟩
  | 5 => ⟨S4, .f32⟩
  | 6 => ⟨S128, .f32⟩
  | 7 => ⟨S896, .f32⟩
  | 8 => ⟨S256, .f32⟩
  | 9 => ⟨S32x256, .f32⟩
  | 10 => ⟨S256, .f32⟩
  | 11 => ⟨S32x256, .f32⟩
  | 12 => ⟨S64x256, .f32⟩
  | 13 => ⟨S256, .f32⟩
  | 14 => ⟨S256, .f32⟩
  | 15 => ⟨S4x64, .f32⟩
  | 16 => ⟨S256, .f32⟩
  | 17 => ⟨S256, .f32⟩
  | 18 => ⟨S256, .f32⟩
  | 19 => ⟨S256, .f32⟩
  | 20 => ⟨S4x8256x128, .f32⟩
  | 21 => ⟨S4x8256x128, .f32⟩
  | 22 => ⟨S4x8256x256, .f32⟩
  | 23 => ⟨S4x8256x256, .f32⟩
  | 24 => ⟨S4x8256x4x32, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S15, .f32⟩
  | 33 => ⟨S_, .f32⟩
  | 34 => ⟨S15, .f32⟩
  | 35 => ⟨S15, .f32⟩
  | 36 => ⟨S1, .f32⟩
  | 37 => ⟨S_, .f32⟩
  | 38 => ⟨S15, .f32⟩
  | 39 => ⟨S15, .f32⟩
  | 40 => ⟨S15, .f32⟩
  | 41 => ⟨S15, .f32⟩
  | 42 => ⟨S1, .f32⟩
  | 43 => ⟨S15, .f32⟩
  | 44 => ⟨S15, .f32⟩
  | 45 => ⟨S15, .f32⟩
  | 46 => ⟨S1, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S8256, .f32⟩
  | 55 => ⟨S8256x1, .f32⟩
  | 56 => ⟨S1x16, .f32⟩
  | 57 => ⟨S8256x16, .f32⟩
  | 58 => ⟨S8256x16, .f32⟩
  | 59 => ⟨S8256x16, .f32⟩
  | 60 => ⟨S8256x16, .f32⟩
  | 61 => ⟨S1x8256x1x16, .f32⟩
  | 62 => ⟨S8256x16, .f32⟩
  | 63 => ⟨S1x8256x1x16, .f32⟩
  | 64 => ⟨S4x8256x4x16, .f32⟩
  | 65 => ⟨S4x8256x4x16, .f32⟩
  | 66 => ⟨S4x8256x4x16, .f32⟩
  | 67 => ⟨S4x8256x4x16, .f32⟩
  | 68 => ⟨S4x8256x4x16, .f32⟩
  | 69 => ⟨S4x8256x4x16, .f32⟩
  | 70 => ⟨S4x8256x4x16, .f32⟩
  | 71 => ⟨S4x8256x4x16, .f32⟩
  | 72 => ⟨S4x8256x4x16, .f32⟩
  | 73 => ⟨S4x8256x4x16, .f32⟩
  | 74 => ⟨S4x8256x4x16, .f32⟩
  | 75 => ⟨S4x8256x4x16, .f32⟩
  | 76 => ⟨S4x8256x4x32, .f32⟩
  | 77 => ⟨S4x8256x4x32, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S15, .f32⟩
  | 86 => ⟨S_, .f32⟩
  | 87 => ⟨S15, .f32⟩
  | 88 => ⟨S15, .f32⟩
  | 89 => ⟨S1, .f32⟩
  | 90 => ⟨S_, .f32⟩
  | 91 => ⟨S15, .f32⟩
  | 92 => ⟨S15, .f32⟩
  | 93 => ⟨S15, .f32⟩
  | 94 => ⟨S15, .f32⟩
  | 95 => ⟨S1, .f32⟩
  | 96 => ⟨S15, .f32⟩
  | 97 => ⟨S15, .f32⟩
  | 98 => ⟨S15, .f32⟩
  | 99 => ⟨S1, .f32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S16, .f32⟩
  | 107 => ⟨S8256, .f32⟩
  | 108 => ⟨S8256x1, .f32⟩
  | 109 => ⟨S1x16, .f32⟩
  | 110 => ⟨S8256x16, .f32⟩
  | 111 => ⟨S8256x16, .f32⟩
  | 112 => ⟨S8256x16, .f32⟩
  | 113 => ⟨S8256x16, .f32⟩
  | 114 => ⟨S1x8256x1x16, .f32⟩
  | 115 => ⟨S8256x16, .f32⟩
  | 116 => ⟨S1x8256x1x16, .f32⟩
  | 117 => ⟨S4x8256x4x16, .f32⟩
  | 118 => ⟨S4x8256x4x16, .f32⟩
  | 119 => ⟨S4x8256x4x16, .f32⟩
  | 120 => ⟨S4x8256x4x16, .f32⟩
  | 121 => ⟨S4x8256x4x16, .f32⟩
  | 122 => ⟨S4x8256x4x16, .f32⟩
  | 123 => ⟨S4x8256x4x16, .f32⟩
  | 124 => ⟨S4x8256x4x16, .f32⟩
  | 125 => ⟨S4x8256x4x16, .f32⟩
  | 126 => ⟨S4x8256x4x16, .f32⟩
  | 127 => ⟨S4x8256x4x16, .f32⟩
  | _ => ⟨S4x8256x2056, .f32⟩

abbrev hbmTy0_1 (i : Nat) : BufTy := match i % 128 with
  | 0 => ⟨S4x8256x4x16, .f32⟩
  | 1 => ⟨S4x8256x4x32, .f32⟩
  | 2 => ⟨S4x8256x4x64, .f32⟩
  | 3 => ⟨S4x129x64x4x32, .f32⟩
  | 4 => ⟨S129x4x4x64x32, .f32⟩
  | 5 => ⟨S4x129x64x4x32, .f32⟩
  | 6 => ⟨S129x4x4x64x32, .f32⟩
  | 7 => ⟨S_, .f32⟩
  | 8 => ⟨S129x4x4x64x32, .f32⟩
  | 9 => ⟨S129x4x4x64x32, .f32⟩
  | 10 => ⟨S4x129x64x4x64, .f32⟩
  | 11 => ⟨S129x4x4x64x64, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S64, .f32⟩
  | 24 => ⟨S64x1, .f32⟩
  | 25 => ⟨S1x64, .f32⟩
  | 26 => ⟨S64x64, .f32⟩
  | 27 => ⟨S64x64, .f32⟩
  | 28 => ⟨S64x64, .f32⟩
  | 29 => ⟨S_, .f32⟩
  | 30 => ⟨S64x64, .f32⟩
  | 31 => ⟨S64x64, .i1⟩
  | 32 => ⟨S4x1x1, .f32⟩
  | 33 => ⟨S_, .f32⟩
  | 34 => ⟨S64x64, .f32⟩
  | 35 => ⟨S64x64, .f32⟩
  | 36 => ⟨S1x64x64, .f32⟩
  | 37 => ⟨S4x64x64, .f32⟩
  | 38 => ⟨S4x64x64, .f32⟩
  | 39 => ⟨S4x64x64, .f32⟩
  | 40 => ⟨S4x64x64, .f32⟩
  | 41 => ⟨S_, .f32⟩
  | 42 => ⟨S_, .f32⟩
  | 43 => ⟨S4x64x64, .i1⟩
  | 44 => ⟨S4x64x64, .f32⟩
  | 45 => ⟨S4x64x64, .f32⟩
  | 46 => ⟨S129x4x4x64x64, .f32⟩
  | 47 => ⟨S1x1x4x64x64, .f32⟩
  | 48 => ⟨S129x4x4x64x64, .f32⟩
  | 49 => ⟨S129x4x4x64x64, .f32⟩
  | 50 => ⟨S129x4x4x64x64, .f32⟩
  | 51 => ⟨S4x1, .f32⟩
  | 52 => ⟨S_, .f32⟩
  | 53 => ⟨S64, .f32⟩
  | 54 => ⟨S64, .f32⟩
  | 55 => ⟨S1x64, .f32⟩
  | 56 => ⟨S4x64, .f32⟩
  | 57 => ⟨S4x64, .f32⟩
  | 58 => ⟨S4x64, .f32⟩
  | 59 => ⟨S4x64, .f32⟩
  | 60 => ⟨S4x64x1, .f32⟩
  | 61 => ⟨S1x1x4x64x1, .f32⟩
  | 62 => ⟨S129x4x4x64x32, .f32⟩
  | 63 => ⟨S129x4x4x64x32, .f32⟩
  | 64 => ⟨S4x1, .f32⟩
  | 65 => ⟨S_, .f32⟩
  | 66 => ⟨S64, .f32⟩
  | 67 => ⟨S64, .f32⟩
  | 68 => ⟨S1x64, .f32⟩
  | 69 => ⟨S4x64, .f32⟩
  | 70 => ⟨S4x64, .f32⟩
  | 71 => ⟨S4x64, .f32⟩
  | 72 => ⟨S4x64, .f32⟩
  | 73 => ⟨S4x64x1, .f32⟩
  | 74 => ⟨S1x1x4x64x1, .f32⟩
  | 75 => ⟨S129x4x4x64x32, .f32⟩
  | 76 => ⟨S129x4x4x64x32, .f32⟩
  | 77 => ⟨S_, .f32⟩
  | 78 => ⟨S4, .f32⟩
  | 79 => ⟨S4, .f32⟩
  | 80 => ⟨S4, .f32⟩
  | 81 => ⟨S4x1x1, .f32⟩
  | 82 => ⟨S_, .f32⟩
  | 83 => ⟨S4x4x32x64, .f32⟩
  | 84 => ⟨S_, .f32⟩
  | 85 => ⟨S129x4x4x64x64, .f32⟩
  | 86 => ⟨S_, .i32⟩
  | 87 => ⟨S129x4x4x64x32, .f32⟩
  | 88 => ⟨S129x4x4x64x32, .f32⟩
  | 89 => ⟨S129x4x4x64x64, .f32⟩
  | 90 => ⟨S4x1x1, .f32⟩
  | 91 => ⟨S_, .i32⟩
  | 92 => ⟨S4x4x32x64, .f32⟩
  | 93 => ⟨S129x4x4x64x64, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S1x4x4x64x32, .f32⟩
  | 101 => ⟨S4x4x64x32, .f32⟩
  | 102 => ⟨S_, .i32⟩
  | 103 => ⟨S_, .i32⟩
  | 104 => ⟨S_, .i32⟩
  | 105 => ⟨S_, .i32⟩
  | 106 => ⟨S1x4x4x64x32, .f32⟩
  | 107 => ⟨S4x4x64x32, .f32⟩
  | 108 => ⟨S_, .i32⟩
  | 109 => ⟨S_, .i32⟩
  | 110 => ⟨S_, .i32⟩
  | 111 => ⟨S_, .i32⟩
  | 112 => ⟨S1x4x4x64x64, .f32⟩
  | 113 => ⟨S4x4x64x64, .f32⟩
  | 114 => ⟨S4x4x64x64, .f32⟩
  | 115 => ⟨S1x4x1x1, .f32⟩
  | 116 => ⟨S4x4x32x64, .f32⟩
  | 117 => ⟨S4x4x32x64, .f32⟩
  | 118 => ⟨S4x4x32x64, .f32⟩
  | 119 => ⟨S4x4x32x64, .f32⟩
  | 120 => ⟨S1x4x4x64x64, .f32⟩
  | 121 => ⟨S_, .i32⟩
  | 122 => ⟨S_, .i32⟩
  | 123 => ⟨S_, .i32⟩
  | 124 => ⟨S_, .i32⟩
  | 125 => ⟨S129x4x4x64x64, .f32⟩
  | 126 => ⟨S_, .i32⟩
  | 127 => ⟨S_, .i32⟩
  | _ => ⟨S4x8256x2056, .f32⟩

abbrev hbmTy0_2 (i : Nat) : BufTy := match i % 128 with
  | 0 => ⟨S129x4x4x64x64, .f32⟩
  | 1 => ⟨S4x129x64x4x64, .f32⟩
  | 2 => ⟨S4x8256x4x64, .f32⟩
  | 3 => ⟨S_, .f32⟩
  | 4 => ⟨S4x8256x4, .f32⟩
  | 5 => ⟨S4x8256x4x1, .f32⟩
  | 6 => ⟨S_, .f32⟩
  | 7 => ⟨S4x8256x4x1, .f32⟩
  | 8 => ⟨S4x8256x4x1, .f32⟩
  | 9 => ⟨S4x8256x4x64, .f32⟩
  | 10 => ⟨S4x8256x4x64, .f32⟩
  | 11 => ⟨S4x8256x4x64, .f32⟩
  | 12 => ⟨S_, .f32⟩
  | 13 => ⟨S4x8256x4, .f32⟩
  | 14 => ⟨S4x8256x4x1, .f32⟩
  | 15 => ⟨S_, .f32⟩
  | 16 => ⟨S4x8256x4x1, .f32⟩
  | 17 => ⟨S4x8256x4x1, .f32⟩
  | 18 => ⟨S4x8256x4x64, .f32⟩
  | 19 => ⟨S4x8256x4x64, .f32⟩
  | 20 => ⟨S_, .f32⟩
  | 21 => ⟨S4x8256x4x1, .f32⟩
  | 22 => ⟨S4x8256x4x1, .f32⟩
  | 23 => ⟨S4x8256x4x1, .f32⟩
  | 24 => ⟨S4x8256x4x64, .f32⟩
  | 25 => ⟨S4x8256x4x64, .f32⟩
  | 26 => ⟨S4x8256x256, .f32⟩
  | 27 => ⟨S1x1x256, .f32⟩
  | 28 => ⟨S4x8256x256, .f32⟩
  | 29 => ⟨S4x8256x256, .f32⟩
  | 30 => ⟨S1x1x256, .f32⟩
  | 31 => ⟨S4x8256x256, .f32⟩
  | 32 => ⟨S4x8256x256, .f32⟩
  | 33 => ⟨S4x8256x256, .f32⟩
  | 34 => ⟨S4x8256x256, .f32⟩
  | 35 => ⟨S_, .f32⟩
  | 36 => ⟨S4x8256x256, .f32⟩
  | 37 => ⟨S4x8256x256, .f32⟩
  | 38 => ⟨S_, .f32⟩
  | 39 => ⟨S4x8256x256, .f32⟩
  | 40 => ⟨S4x8256x256, .f32⟩
  | 41 => ⟨S4x8256x256, .f32⟩
  | 42 => ⟨S4x8256x256, .f32⟩
  | 43 => ⟨S_, .f32⟩
  | 44 => ⟨S4x8256x768, .f32⟩
  | 45 => ⟨S4x8256x1024, .f32⟩
  | 46 => ⟨S4x8192x1024, .f32⟩
  | 47 => ⟨S4x64x1024, .f32⟩
  | 48 => ⟨S4x8256x1024, .f32⟩
  | 49 => ⟨S4x8256x1024, .bf16⟩
  | _ => ⟨S4x8256x2056, .f32⟩

abbrev hbmTy (i : Nat) : BufTy := match i / 128 with
  | 0 => hbmTy0_0 i
  | 1 => hbmTy0_1 i
  | 2 => hbmTy0_2 i
  | _ => ⟨S4x8256x2056, .f32⟩

abbrev bufTy : (tb : Table) → Fin (tcTables nBuf tb) → BufTy
  | .hbm, ⟨i, _⟩ => hbmTy i
  | _, _ => ⟨S4x8256x2056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_cst : Ref sig .tc := ⟨.hbm, 30, rfl⟩
abbrev main_call0_v3 : Ref sig .tc := ⟨.hbm, 31, rfl⟩
abbrev main_call0_v4 : Ref sig .tc := ⟨.hbm, 32, rfl⟩
abbrev main_call0_cst_0 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_v5 : Ref sig .tc := ⟨.hbm, 47, rfl⟩
abbrev main_cst_1 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_3 : Ref sig .tc := ⟨.hbm, 78, rfl⟩
abbrev main_cst_4 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_cst : Ref sig .tc := ⟨.hbm, 83, rfl⟩
abbrev main_call1_v3 : Ref sig .tc := ⟨.hbm, 84, rfl⟩
abbrev main_call1_v4 : Ref sig .tc := ⟨.hbm, 85, rfl⟩
abbrev main_call1_cst_0 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_v15 : Ref sig .tc := ⟨.hbm, 98, rfl⟩
abbrev main_call1_v16 : Ref sig .tc := ⟨.hbm, 99, rfl⟩
abbrev main_v34 : Ref sig .tc := ⟨.hbm, 100, rfl⟩
abbrev main_cst_5 : Ref sig .tc := ⟨.hbm, 101, rfl⟩
abbrev main_v35 : Ref sig .tc := ⟨.hbm, 102, rfl⟩
abbrev main_v36 : Ref sig .tc := ⟨.hbm, 103, rfl⟩
abbrev main_cst_6 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_cst_7 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_cst_8 : Ref sig .tc := ⟨.hbm, 141, rfl⟩
abbrev main_v72 : Ref sig .tc := ⟨.hbm, 142, rfl⟩
abbrev main_v73 : Ref sig .tc := ⟨.hbm, 143, rfl⟩
abbrev main_cst_9 : Ref sig .tc := ⟨.hbm, 144, rfl⟩
abbrev main_v74 : Ref sig .tc := ⟨.hbm, 145, rfl⟩
abbrev main_v75 : Ref sig .tc := ⟨.hbm, 146, rfl⟩
abbrev main_cst_10 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_cst_11 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_12 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_cst_13 : Ref sig .tc := ⟨.hbm, 169, rfl⟩
abbrev main_call2_v0 : Ref sig .tc := ⟨.hbm, 170, rfl⟩
abbrev main_call2_v1 : Ref sig .tc := ⟨.hbm, 171, rfl⟩
abbrev main_call2_v2 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_cst_14 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_cst_15 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_cst_16 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_cst_17 : Ref sig .tc := ⟨.hbm, 210, rfl⟩
abbrev main_v129 : Ref sig .tc := ⟨.hbm, 211, rfl⟩
abbrev main_cst_18 : Ref sig .tc := ⟨.hbm, 212, rfl⟩
abbrev main_v130 : Ref sig .tc := ⟨.hbm, 213, rfl⟩
abbrev main_c : Ref sig .tc := ⟨.hbm, 214, rfl⟩
abbrev main_v131_0 : Ref sig .tc := ⟨.hbm, 215, rfl⟩
abbrev main_v131_1 : Ref sig .tc := ⟨.hbm, 216, rfl⟩
abbrev main_v131_2 : Ref sig .tc := ⟨.hbm, 217, rfl⟩
abbrev main_v131_3 : Ref sig .tc := ⟨.hbm, 218, rfl⟩
abbrev main_v131_4 : Ref sig .tc := ⟨.hbm, 219, rfl⟩
abbrev main_v131_5 : Ref sig .tc := ⟨.hbm, 220, rfl⟩
abbrev main_v131_6 : Ref sig .tc := ⟨.hbm, 221, rfl⟩
abbrev main_while0c_c_31 : Ref sig .tc := ⟨.hbm, 222, rfl⟩
abbrev main_while0c_v168 : Ref sig .tc := ⟨.hbm, 223, rfl⟩
abbrev main_while0b_call3_c : Ref sig .tc := ⟨.hbm, 224, rfl⟩
abbrev main_while0b_call3_c_0 : Ref sig .tc := ⟨.hbm, 225, rfl⟩
abbrev main_while0b_call3_c_1 : Ref sig .tc := ⟨.hbm, 226, rfl⟩
abbrev main_while0b_call3_c_2 : Ref sig .tc := ⟨.hbm, 227, rfl⟩
abbrev main_while0b_call3_v0 : Ref sig .tc := ⟨.hbm, 228, rfl⟩
abbrev main_while0b_v168 : Ref sig .tc := ⟨.hbm, 229, rfl⟩
abbrev main_while0b_call4_c : Ref sig .tc := ⟨.hbm, 230, rfl⟩
abbrev main_while0b_call4_c_0 : Ref sig .tc := ⟨.hbm, 231, rfl⟩
abbrev main_while0b_call4_c_1 : Ref sig .tc := ⟨.hbm, 232, rfl⟩
abbrev main_while0b_call4_c_2 : Ref sig .tc := ⟨.hbm, 233, rfl⟩
abbrev main_while0b_call4_v0 : Ref sig .tc := ⟨.hbm, 234, rfl⟩
abbrev main_while0b_v169 : Ref sig .tc := ⟨.hbm, 235, rfl⟩
abbrev main_while0b_call5_c : Ref sig .tc := ⟨.hbm, 236, rfl⟩
abbrev main_while0b_call5_c_0 : Ref sig .tc := ⟨.hbm, 237, rfl⟩
abbrev main_while0b_call5_c_1 : Ref sig .tc := ⟨.hbm, 238, rfl⟩
abbrev main_while0b_call5_c_2 : Ref sig .tc := ⟨.hbm, 239, rfl⟩
abbrev main_while0b_call5_v0 : Ref sig .tc := ⟨.hbm, 240, rfl⟩
abbrev main_while0b_v170 : Ref sig .tc := ⟨.hbm, 241, rfl⟩
abbrev main_while0b_v171 : Ref sig .tc := ⟨.hbm, 242, rfl⟩
abbrev main_while0b_v172 : Ref sig .tc := ⟨.hbm, 243, rfl⟩
abbrev main_while0b_v173 : Ref sig .tc := ⟨.hbm, 244, rfl⟩
abbrev main_while0b_v174 : Ref sig .tc := ⟨.hbm, 245, rfl⟩
abbrev main_while0b_v175 : Ref sig .tc := ⟨.hbm, 246, rfl⟩
abbrev main_while0b_v176 : Ref sig .tc := ⟨.hbm, 247, rfl⟩
abbrev main_while0b_call6_v0 : Ref sig .tc := ⟨.hbm, 248, rfl⟩
abbrev main_while0b_call6_c : Ref sig .tc := ⟨.hbm, 249, rfl⟩
abbrev main_while0b_call6_c_0 : Ref sig .tc := ⟨.hbm, 250, rfl⟩
abbrev main_while0b_call6_c_1 : Ref sig .tc := ⟨.hbm, 251, rfl⟩
abbrev main_while0b_call6_c_2 : Ref sig .tc := ⟨.hbm, 252, rfl⟩
abbrev main_while0b_v177 : Ref sig .tc := ⟨.hbm, 253, rfl⟩
abbrev main_while0b_c_31 : Ref sig .tc := ⟨.hbm, 254, rfl⟩
abbrev main_while0b_v178 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_cst_19 : Ref sig .tc := ⟨.hbm, 259, rfl⟩
abbrev main_v135 : Ref sig .tc := ⟨.hbm, 260, rfl⟩
abbrev main_v136 : Ref sig .tc := ⟨.hbm, 261, rfl⟩
abbrev main_cst_20 : Ref sig .tc := ⟨.hbm, 262, rfl⟩
abbrev main_v137 : Ref sig .tc := ⟨.hbm, 263, rfl⟩
abbrev main_v138 : Ref sig .tc := ⟨.hbm, 264, rfl⟩
abbrev main_v139 : Ref sig .tc := ⟨.hbm, 265, rfl⟩
abbrev main_v140 : Ref sig .tc := ⟨.hbm, 266, rfl⟩
abbrev main_v141 : Ref sig .tc := ⟨.hbm, 267, rfl⟩
abbrev main_cst_21 : Ref sig .tc := ⟨.hbm, 268, rfl⟩
abbrev main_v142 : Ref sig .tc := ⟨.hbm, 269, rfl⟩
abbrev main_v143 : Ref sig .tc := ⟨.hbm, 270, rfl⟩
abbrev main_cst_22 : Ref sig .tc := ⟨.hbm, 271, rfl⟩
abbrev main_v144 : Ref sig .tc := ⟨.hbm, 272, rfl⟩
abbrev main_v145 : Ref sig .tc := ⟨.hbm, 273, rfl⟩
abbrev main_v146 : Ref sig .tc := ⟨.hbm, 274, rfl⟩
abbrev main_v147 : Ref sig .tc := ⟨.hbm, 275, rfl⟩
abbrev main_cst_23 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_v154 : Ref sig .tc := ⟨.hbm, 283, rfl⟩
abbrev main_v155 : Ref sig .tc := ⟨.hbm, 284, rfl⟩
abbrev main_v156 : Ref sig .tc := ⟨.hbm, 285, rfl⟩
abbrev main_v157 : Ref sig .tc := ⟨.hbm, 286, rfl⟩
abbrev main_v158 : Ref sig .tc := ⟨.hbm, 287, rfl⟩
abbrev main_v159 : Ref sig .tc := ⟨.hbm, 288, rfl⟩
abbrev main_call7_v0 : Ref sig .tc := ⟨.hbm, 289, rfl⟩
abbrev main_call7_v1 : Ref sig .tc := ⟨.hbm, 290, rfl⟩
abbrev main_call7_cst : Ref sig .tc := ⟨.hbm, 291, rfl⟩
abbrev main_call7_v2 : Ref sig .tc := ⟨.hbm, 292, rfl⟩
abbrev main_call7_v3 : Ref sig .tc := ⟨.hbm, 293, rfl⟩
abbrev main_call7_cst_0 : Ref sig .tc := ⟨.hbm, 294, rfl⟩
abbrev main_call7_v4 : Ref sig .tc := ⟨.hbm, 295, rfl⟩
abbrev main_call7_v5 : Ref sig .tc := ⟨.hbm, 296, rfl⟩
abbrev main_v160 : Ref sig .tc := ⟨.hbm, 297, rfl⟩
abbrev main_v161 : Ref sig .tc := ⟨.hbm, 298, rfl⟩
abbrev main_cst_24 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_v165 : Ref sig .tc := ⟨.hbm, 303, rfl⟩
abbrev main_v166 : Ref sig .tc := ⟨.hbm, 304, rfl⟩
abbrev main_v167 : Ref sig .tc := ⟨.hbm, 305, rfl⟩

abbrev nD : Nat := 1
abbrev τ : Topo := Topo.v7x

variable {F : FTy → Type} [FloatOps F]

abbrev main_while0_count : Scf.Loop 32 := ⟨0#32, 129#32, 1#32⟩
-- ==== Kernel2.lean ====
abbrev S4x8256x1024 : Shape := ⟨3, ![4, 8256, 1024]⟩
abbrev S2x1024x1024 : Shape := ⟨3, ![2, 1024, 1024]⟩
abbrev S2x3x1024 : Shape := ⟨3, ![2, 3, 1024]⟩
abbrev S2x1024x5632 : Shape := ⟨3, ![2, 1024, 5632]⟩
abbrev S2x2816x1024 : Shape := ⟨3, ![2, 2816, 1024]⟩
abbrev S4x8192x1024 : Shape := ⟨3, ![4, 8192, 1024]⟩
abbrev S4x64x1024 : Shape := ⟨3, ![4, 64, 1024]⟩
abbrev S1x1x1024 : Shape := ⟨3, ![1, 1, 1024]⟩
abbrev S1024 : Shape := ⟨1, ![1024]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x1024 : Shape := ⟨2, ![1024, 1024]⟩
abbrev S1024x1 : Shape := ⟨2, ![1024, 1]⟩
abbrev S1x1024x768 : Shape := ⟨3, ![1, 1024, 768]⟩
abbrev S1024x768 : Shape := ⟨2, ![1024, 768]⟩
abbrev S1x768x1024 : Shape := ⟨3, ![1, 768, 1024]⟩
abbrev S768x1024 : Shape := ⟨2, ![768, 1024]⟩

abbrev nBuf : Space → Nat
  | .hbm => 30
  | .vmem => 13
  | .smem => 0
  | _ => 0

abbrev bufTy : (tb : Table) → Fin (tcTables nBuf tb) → BufTy
  | .hbm, ⟨0, _⟩ => ⟨S4x8256x1024, .f32⟩
  | .hbm, ⟨1, _⟩ => ⟨S4x8256x1024, .f32⟩
  | .hbm, ⟨2, _⟩ => ⟨S2x1024x1024, .f32⟩
  | .hbm, ⟨3, _⟩ => ⟨S2x3x1024, .f32⟩
  | .hbm, ⟨4, _⟩ => ⟨S2x3x1024, .f32⟩
  | .hbm, ⟨5, _⟩ => ⟨S2x1024x5632, .f32⟩
  | .hbm, ⟨6, _⟩ => ⟨S2x2816x1024, .f32⟩
  | .hbm, ⟨7, _⟩ => ⟨S4x8192x1024, .f32⟩
  | .hbm, ⟨8, _⟩ => ⟨S4x64x1024, .f32⟩
  | .hbm, ⟨9, _⟩ => ⟨S4x8256x1024, .f32⟩
  | .hbm, ⟨10, _⟩ => ⟨S4x8192x1024, .f32⟩
  | .hbm, ⟨11, _⟩ => ⟨S4x64x1024, .f32⟩
  | .hbm, ⟨12, _⟩ => ⟨S4x8256x1024, .f32⟩
  | .hbm, ⟨13, _⟩ => ⟨S4x8256x1024, .bf16⟩
  | .hbm, ⟨14, _⟩ => ⟨S2x1024x1024, .bf16⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1x1024, .f32⟩
  | .hbm, ⟨19, _⟩ => ⟨S1024, .f32⟩
  | .hbm, ⟨20, _⟩ => ⟨S1x1024, .f32⟩
  | .hbm, ⟨21, _⟩ => ⟨S2x1024x5632, .bf16⟩
  | .hbm, ⟨22, _⟩ => ⟨S2x2816x1024, .bf16⟩
  | .hbm, ⟨23, _⟩ => ⟨S1x1x1024, .f32⟩
  | .hbm, ⟨24, _⟩ => ⟨S1024, .f32⟩
  | .hbm, ⟨25, _⟩ => ⟨S1x1024, .f32⟩
  | .hbm, ⟨26, _⟩ => ⟨S1x1x1024, .f32⟩
  | .hbm, ⟨27, _⟩ => ⟨S1024, .f32⟩
  | .hbm, ⟨28, _⟩ => ⟨S1x1024, .f32⟩
  | .hbm, ⟨29, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S1x1024, .f32⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | _, _ => ⟨S4x8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x8256x1024 : Shape := ⟨3, ![4, 8256, 1024]⟩
abbrev S2x1024x1024 : Shape := ⟨3, ![2, 1024, 1024]⟩
abbrev S2x3x1024 : Shape := ⟨3, ![2, 3, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S4x8256 : Shape := ⟨2, ![4, 8256]⟩
abbrev S4x8256x1 : Shape := ⟨3, ![4, 8256, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x8256x5632 : Shape := ⟨3, ![4, 8256, 5632]⟩
abbrev S4x8256x2816 : Shape := ⟨3, ![4, 8256, 2816]⟩
abbrev S4x8192x1024 : Shape := ⟨3, ![4, 8192, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4x8256x1024, .f32⟩
  | .hbm, ⟨1, _⟩ => ⟨S4x8256x1024, .f32⟩
  | .hbm, ⟨2, _⟩ => ⟨S2x1024x1024, .f32⟩
  | .hbm, ⟨3, _⟩ => ⟨S2x3x1024, .f32⟩
  | .hbm, ⟨4, _⟩ => ⟨S2x3x1024, .f32⟩
  | .hbm, ⟨5, _⟩ => ⟨S2x1024x5632, .f32⟩
  | .hbm, ⟨6, _⟩ => ⟨S2x2816x1024, .f32⟩
  | .hbm, ⟨7, _⟩ => ⟨S1x1024x1024, .f32⟩
  | .hbm, ⟨8, _⟩ => ⟨S1024x1024, .f32⟩
  | .hbm, ⟨9, _⟩ => ⟨S4x8256x1024, .f32⟩
  | .hbm, ⟨10, _⟩ => ⟨S_, .f32⟩
  | .hbm, ⟨11, _⟩ => ⟨S4x8256x1024, .f32⟩
  | .hbm, ⟨12, _⟩ => ⟨S4x8256x1024, .f32⟩
  | .hbm, ⟨13, _⟩ => ⟨S4x8256x1024, .f32⟩
  | .hbm, ⟨14, _⟩ => ⟨S1x1x1024, .f32⟩
  | .hbm, ⟨15, _⟩ => ⟨S1024, .f32⟩
  | .hbm, ⟨16, _⟩ => ⟨S1x1x1024, .f32⟩
  | .hbm, ⟨17, _⟩ => ⟨S1024, .f32⟩
  | .hbm, ⟨18, _⟩ => ⟨S_, .f32⟩
  | .hbm, ⟨19, _⟩ => ⟨S4x8256, .f32⟩
  | .hbm, ⟨20, _⟩ => ⟨S4x8256x1, .f32⟩
  | .hbm, ⟨21, _⟩ => ⟨S_, .f32⟩
  | .hbm, ⟨22, _⟩ => ⟨S4x8256x1, .f32⟩
  | .hbm, ⟨23, _⟩ => ⟨S4x8256x1, .f32⟩
  | .hbm, ⟨24, _⟩ => ⟨S4x8256x1024, .f32⟩
  | .hbm, ⟨25, _⟩ => ⟨S4x8256x1024, .f32⟩
  | .hbm, ⟨26, _⟩ => ⟨S4x8256x1024, .f32⟩
  | .hbm, ⟨27, _⟩ => ⟨S_, .f32⟩
  | .hbm, ⟨28, _⟩ => ⟨S4x8256, .f32⟩
  | .hbm, ⟨29, _⟩ => ⟨S4x8256x1, .f32⟩
  | .hbm, ⟨30, _⟩ => ⟨S_, .f32⟩
  | .hbm, ⟨31, _⟩ => ⟨S4x8256x1, .f32⟩
  | .hbm, ⟨32, _⟩ => ⟨S4x8256x1, .f32⟩
  | .hbm, ⟨33, _⟩ => ⟨S4x8256x1024, .f32⟩
  | .hbm, ⟨34, _⟩ => ⟨S4x8256x1024, .f32⟩
  | .hbm, ⟨35, _⟩ => ⟨S_, .f32⟩
  | .hbm, ⟨36, _⟩ => ⟨S4x8256x1, .f32⟩
  | .hbm, ⟨37, _⟩ => ⟨S4x8256x1, .f32⟩
  | .hbm, ⟨38, _⟩ => ⟨S4x8256x1, .f32⟩
  | .hbm, ⟨39, _⟩ => ⟨S4x8256x1024, .f32⟩
  | .hbm, ⟨40, _⟩ => ⟨S4x8256x1024, .f32⟩
  | .hbm, ⟨41, _⟩ => ⟨S1x1x1024, .f32⟩
  | .hbm, ⟨42, _⟩ => ⟨S4x8256x1024, .f32⟩
  | .hbm, ⟨43, _⟩ => ⟨S4x8256x1024, .f32⟩
  | .hbm, ⟨44, _⟩ => ⟨S1x1x1024, .f32⟩
  | .hbm, ⟨45, _⟩ => ⟨S4x8256x1024, .f32⟩
  | .hbm, ⟨46, _⟩ => ⟨S4x8256x1024, .f32⟩
  | .hbm, ⟨47, _⟩ => ⟨S_, .f32⟩
  | .hbm, ⟨48, _⟩ => ⟨S4x8256x1024, .f32⟩
  | .hbm, ⟨49, _⟩ => ⟨S4x8256x1024, .f32⟩
  | .hbm, ⟨50, _⟩ => ⟨S1x1024x5632, .f32⟩
  | .hbm, ⟨51, _⟩ => ⟨S1024x5632, .f32⟩
  | .hbm, ⟨52, _⟩ => ⟨S1x2816x1024, .f32⟩
  | .hbm, ⟨53, _⟩ => ⟨S2816x1024, .f32⟩
  | .hbm, ⟨54, _⟩ => ⟨S4x8256x5632, .f32⟩
  | .hbm, ⟨55, _⟩ => ⟨S4x8256x2816, .f32⟩
  | .hbm, ⟨56, _⟩ => ⟨S4x8256x2816, .f32⟩
  | .hbm, ⟨57, _⟩ => ⟨S4x8256x2816, .f32⟩
  | .hbm, ⟨58, _⟩ => ⟨S4x8256x2816, .f32⟩
  | .hbm, ⟨59, _⟩ => ⟨S_, .f32⟩
  | .hbm, ⟨60, _⟩ => ⟨S4x8256x2816, .f32⟩
  | .hbm, ⟨61, _⟩ => ⟨S4x8256x2816, .f32⟩
  | .hbm, ⟨62, _⟩ => ⟨S_, .f32⟩
  | .hbm, ⟨63, _⟩ => ⟨S4x8256x2816, .f32⟩
  | .hbm, ⟨64, _⟩ => ⟨S4x8256x2816, .f32⟩
  | .hbm, ⟨65, _⟩ => ⟨S4x8256x2816, .f32⟩
  | .hbm, ⟨66, _⟩ => ⟨S4x8256x2816, .f32⟩
  | .hbm, ⟨67, _⟩ => ⟨S4x8256x1024, .f32⟩
  | .hbm, ⟨68, _⟩ => ⟨S_, .f32⟩
  | .hbm, ⟨69, _⟩ => ⟨S4x8256x1024, .f32⟩
  | .hbm, ⟨70, _⟩ => ⟨S4x8256x1024, .f32⟩
  | .hbm, ⟨71, _⟩ => ⟨S4x8256x1024, .f32⟩
  | .hbm, ⟨72, _⟩ => ⟨S1x1x1024, .f32⟩
  | .hbm, ⟨73, _⟩ => ⟨S1024, .f32⟩
  | .hbm, ⟨74, _⟩ => ⟨S1x1x1024, .f32⟩
  | .hbm, ⟨75, _⟩ => ⟨S1024, .f32⟩
  | .hbm, ⟨76, _⟩ => ⟨S_, .f32⟩
  | .hbm, ⟨77, _⟩ => ⟨S4x8256, .f32⟩
  | .hbm, ⟨78, _⟩ => ⟨S4x8256x1, .f32⟩
  | .hbm, ⟨79, _⟩ => ⟨S_, .f32⟩
  | .hbm, ⟨80, _⟩ => ⟨S4x8256x1, .f32⟩
  | .hbm, ⟨81, _⟩ => ⟨S4x8256x1, .f32⟩
  | .hbm, ⟨82, _⟩ => ⟨S4x8256x1024, .f32⟩
  | .hbm, ⟨83, _⟩ => ⟨S4x8256x1024, .f32⟩
  | .hbm, ⟨84, _⟩ => ⟨S4x8256x1024, .f32⟩
  | .hbm, ⟨85, _⟩ => ⟨S_, .f32⟩
  | .hbm, ⟨86, _⟩ => ⟨S4x8256, .f32⟩
  | .hbm, ⟨87, _⟩ => ⟨S4x8256x1, .f32⟩
  | .hbm, ⟨88, _⟩ => ⟨S_, .f32⟩
  | .hbm, ⟨89, _⟩ => ⟨S4x8256x1, .f32⟩
  | .hbm, ⟨90, _⟩ => ⟨S4x8256x1, .f32⟩
  | .hbm, ⟨91, _⟩ => ⟨S4x8256x1024, .f32⟩
  | .hbm, ⟨92, _⟩ => ⟨S4x8256x1024, .f32⟩
  | .hbm, ⟨93, _⟩ => ⟨S_, .f32⟩
  | .hbm, ⟨94, _⟩ => ⟨S4x8256x1, .f32⟩
  | .hbm, ⟨95, _⟩ => ⟨S4x8256x1, .f32⟩
  | .hbm, ⟨96, _⟩ => ⟨S4x8256x1, .f32⟩
  | .hbm, ⟨97, _⟩ => ⟨S4x8256x1024, .f32⟩
  | .hbm, ⟨98, _⟩ => ⟨S4x8256x1024, .f32⟩
  | .hbm, ⟨99, _⟩ => ⟨S1x1x1024, .f32⟩
  | .hbm, ⟨100, _⟩ => ⟨S4x8256x1024, .f32⟩
  | .hbm, ⟨101, _⟩ => ⟨S4x8256x1024, .f32⟩
  | .hbm, ⟨102, _⟩ => ⟨S1x1x1024, .f32⟩
  | .hbm, ⟨103, _⟩ => ⟨S4x8256x1024, .f32⟩
  | .hbm, ⟨104, _⟩ => ⟨S4x8256x1024, .f32⟩
  | .hbm, ⟨105, _⟩ => ⟨S4x8192x1024, .f32⟩
  | _, _ => ⟨S4x8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== Kernel3.lean ====
abbrev S4x8256x1024 : Shape := ⟨3, ![4, 8256, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S1x1x1024 : Shape := ⟨3, ![1, 1, 1024]⟩
abbrev S1024 : Shape := ⟨1, ![1024]⟩
abbrev S1x1024 : Shape := ⟨2, ![1, 1024]⟩
abbrev S1x1032x1024 : Shape := ⟨3, ![1, 1032, 1024]⟩
abbrev S1x1024x5632 : Shape := ⟨3, ![1, 1024, 5632]⟩
abbrev S1x2816x1024 : Shape := ⟨3, ![1, 2816, 1024]⟩
abbrev S1032x1024 : Shape := ⟨2, ![1032, 1024]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S1032x768 : Shape := ⟨2, ![1032, 768]⟩
abbrev S1x768x1024 : Shape := ⟨3, ![1, 768, 1024]⟩
abbrev S768x1024 : Shape := ⟨2, ![768, 1024]⟩
abbrev S1032 : Shape := ⟨1, ![1032]⟩
abbrev S1032x1 : Shape := ⟨2, ![1032, 1]⟩

abbrev nBuf : Space → Nat
  | .hbm => 14
  | .vmem => 8
  | .smem => 0
  | _ => 0

abbrev bufTy : (tb : Table) → Fin (tcTables nBuf tb) → BufTy
  | .hbm, ⟨0, _⟩ => ⟨S4x8256x1024, .f32⟩
  | .hbm, ⟨1, _⟩ => ⟨S2x1024x5632, .f32⟩
  | .hbm, ⟨2, _⟩ => ⟨S2x2816x1024, .f32⟩
  | .hbm, ⟨3, _⟩ => ⟨S2x3x1024, .f32⟩
  | .hbm, ⟨4, _⟩ => ⟨S2x3x1024, .f32⟩
  | .hbm, ⟨5, _⟩ => ⟨S2x1024x5632, .bf16⟩
  | .hbm, ⟨6, _⟩ => ⟨S2x2816x1024, .bf16⟩
  | .hbm, ⟨7, _⟩ => ⟨S1x1x1024, .f32⟩
  | .hbm, ⟨8, _⟩ => ⟨S1024, .f32⟩
  | .hbm, ⟨9, _⟩ => ⟨S1x1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S4x8256x1024, .f32⟩
  | .local _ .vmem, ⟨0, _⟩ => ⟨S1x1032x1024, .f32⟩
  | .local _ .vmem, ⟨1, _⟩ => ⟨S1x1032x1024, .f32⟩
  | .local _ .vmem, ⟨2, _⟩ => ⟨S1x1024x5632, .bf16⟩
  | .local _ .vmem, ⟨3, _⟩ => ⟨S1x2816x1024, .bf16⟩
  | .local _ .vmem, ⟨4, _⟩ => ⟨S1x1024, .f32⟩
  | .local _ .vmem, ⟨5, _⟩ => ⟨S1x1024, .f32⟩
  | .local _ .vmem, ⟨6, _⟩ => ⟨S1x1032x1024, .f32⟩
  | .local _ .vmem, ⟨7, _⟩ => ⟨S1x1032x1024, .f32⟩
  | _, _ => ⟨S4x8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1032x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1032x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4x8256x1024 : Shape := ⟨3, ![4, 8256, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x8256x5632 : Shape := ⟨3, ![4, 8256, 5632]⟩
abbrev S4x8256x2816 : Shape := ⟨3, ![4, 8256, 2816]⟩
abbrev S1x1x1024 : Shape := ⟨3, ![1, 1, 1024]⟩
abbrev S1024 : Shape := ⟨1, ![1024]⟩
abbrev S4x8256 : Shape := ⟨2, ![4, 8256]⟩
abbrev S4x8256x1 : Shape := ⟨3, ![4, 8256, 1]⟩

abbrev nBuf : Space → Nat
  | .hbm => 63
  | .vmem => 0
  | .smem => 0
  | _ => 0

abbrev bufTy : (tb : Table) → Fin (tcTables nBuf tb) → BufTy
  | .hbm, ⟨0, _⟩ => ⟨S4x8256x1024, .f32⟩
  | .hbm, ⟨1, _⟩ => ⟨S2x1024x5632, .f32⟩
  | .hbm, ⟨2, _⟩ => ⟨S2x2816x1024, .f32⟩
  | .hbm, ⟨3, _⟩ => ⟨S2x3x1024, .f32⟩
  | .hbm, ⟨4, _⟩ => ⟨S2x3x1024, .f32⟩
  | .hbm, ⟨5, _⟩ => ⟨S_, .f32⟩
  | .hbm, ⟨6, _⟩ => ⟨S4x8256x1024, .f32⟩
  | .hbm, ⟨7, _⟩ => ⟨S4x8256x1024, .f32⟩
  | .hbm, ⟨8, _⟩ => ⟨S1x1024x5632, .f32⟩
  | .hbm, ⟨9, _⟩ => ⟨S1024x5632, .f32⟩
  | .hbm, ⟨10, _⟩ => ⟨S1x2816x1024, .f32⟩
  | .hbm, ⟨11, _⟩ => ⟨S2816x1024, .f32⟩
  | .hbm, ⟨12, _⟩ => ⟨S4x8256x5632, .f32⟩
  | .hbm, ⟨13, _⟩ => ⟨S4x8256x2816, .f32⟩
  | .hbm, ⟨14, _⟩ => ⟨S4x8256x2816, .f32⟩
  | .hbm, ⟨15, _⟩ => ⟨S4x8256x2816, .f32⟩
  | .hbm, ⟨16, _⟩ => ⟨S4x8256x2816, .f32⟩
  | .hbm, ⟨17, _⟩ => ⟨S_, .f32⟩
  | .hbm, ⟨18, _⟩ => ⟨S4x8256x2816, .f32⟩
  | .hbm, ⟨19, _⟩ => ⟨S4x8256x2816, .f32⟩
  | .hbm, ⟨20, _⟩ => ⟨S_, .f32⟩
  | .hbm, ⟨21, _⟩ => ⟨S4x8256x2816, .f32⟩
  | .hbm, ⟨22, _⟩ => ⟨S4x8256x2816, .f32⟩
  | .hbm, ⟨23, _⟩ => ⟨S4x8256x2816, .f32⟩
  | .hbm, ⟨24, _⟩ => ⟨S4x8256x2816, .f32⟩
  | .hbm, ⟨25, _⟩ => ⟨S4x8256x1024, .f32⟩
  | .hbm, ⟨26, _⟩ => ⟨S_, .f32⟩
  | .hbm, ⟨27, _⟩ => ⟨S4x8256x1024, .f32⟩
  | .hbm, ⟨28, _⟩ => ⟨S4x8256x1024, .f32⟩
  | .hbm, ⟨29, _⟩ => ⟨S4x8256x1024, .f32⟩
  | .hbm, ⟨30, _⟩ => ⟨S1x1x1024, .f32⟩
  | .hbm, ⟨31, _⟩ => ⟨S1024, .f32⟩
  | .hbm, ⟨32, _⟩ => ⟨S1x1x1024, .f32⟩
  | .hbm, ⟨33, _⟩ => ⟨S1024, .f32⟩
  | .hbm, ⟨34, _⟩ => ⟨S_, .f32⟩
  | .hbm, ⟨35, _⟩ => ⟨S4x8256, .f32⟩
  | .hbm, ⟨36, _⟩ => ⟨S4x8256x1, .f32⟩
  | .hbm, ⟨37, _⟩ => ⟨S_, .f32⟩
  | .hbm, ⟨38, _⟩ => ⟨S4x8256x1, .f32⟩
  | .hbm, ⟨39, _⟩ => ⟨S4x8256x1, .f32⟩
  | .hbm, ⟨40, _⟩ => ⟨S4x8256x1024, .f32⟩
  | .hbm, ⟨41, _⟩ => ⟨S4x8256x1024, .f32⟩
  | .hbm, ⟨42, _⟩ => ⟨S4x8256x1024, .f32⟩
  | .hbm, ⟨43, _⟩ => ⟨S_, .f32⟩
  | .hbm, ⟨44, _⟩ => ⟨S4x8256, .f32⟩
  | .hbm, ⟨45, _⟩ => ⟨S4x8256x1, .f32⟩
  | .hbm, ⟨46, _⟩ => ⟨S_, .f32⟩
  | .hbm, ⟨47, _⟩ => ⟨S4x8256x1, .f32⟩
  | .hbm, ⟨48, _⟩ => ⟨S4x8256x1, .f32⟩
  | .hbm, ⟨49, _⟩ => ⟨S4x8256x1024, .f32⟩
  | .hbm, ⟨50, _⟩ => ⟨S4x8256x1024, .f32⟩
  | .hbm, ⟨51, _⟩ => ⟨S_, .f32⟩
  | .hbm, ⟨52, _⟩ => ⟨S4x8256x1, .f32⟩
  | .hbm, ⟨53, _⟩ => ⟨S4x8256x1, .f32⟩
  | .hbm, ⟨54, _⟩ => ⟨S4x8256x1, .f32⟩
  | .hbm, ⟨55, _⟩ => ⟨S4x8256x1024, .f32⟩
  | .hbm, ⟨56, _⟩ => ⟨S4x8256x1024, .f32⟩
  | .hbm, ⟨57, _⟩ => ⟨S1x1x1024, .f32⟩
  | .hbm, ⟨58, _⟩ => ⟨S4x8256x1024, .f32⟩
  | .hbm, ⟨59, _⟩ => ⟨S4x8256x1024, .f32⟩
  | .hbm, ⟨60, _⟩ => ⟨S1x1x1024, .f32⟩
  | .hbm, ⟨61, _⟩ => ⟨S4x8256x1024, .f32⟩
  | .hbm, ⟨62, _⟩ => ⟨S4x8256x1024, .f32⟩
  | _, _ => ⟨S4x8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel4.lean ====
abbrev S4x8256x1024 : Shape := ⟨3, ![4, 8256, 1024]⟩
abbrev S1024x3720 : Shape := ⟨2, ![1024, 3720]⟩
abbrev S1024x2056 : Shape := ⟨2, ![1024, 2056]⟩
abbrev S_ : Shape := ⟨0, ![]⟩
abbrev S1024x120 : Shape := ⟨2, ![1024, 120]⟩
abbrev S1024x2176 : Shape := ⟨2, ![1024, 2176]⟩
abbrev S1024x896 : Shape := ⟨2, ![1024, 896]⟩
abbrev S1024x768 : Shape := ⟨2, ![1024, 768]⟩
abbrev S4x8192x1024 : Shape := ⟨3, ![4, 8192, 1024]⟩
abbrev S4x64x1024 : Shape := ⟨3, ![4, 64, 1024]⟩
abbrev S4x8256x2176 : Shape := ⟨3, ![4, 8256, 2176]⟩
abbrev S4x8256x896 : Shape := ⟨3, ![4, 8256, 896]⟩
abbrev S4x8256x768 : Shape := ⟨3, ![4, 8256, 768]⟩
abbrev S1x1032x1024 : Shape := ⟨3, ![1, 1032, 1024]⟩
abbrev S1x1032x2176 : Shape := ⟨3, ![1, 1032, 2176]⟩
abbrev S1x1032x896 : Shape := ⟨3, ![1, 1032, 896]⟩
abbrev S1x1032x768 : Shape := ⟨3, ![1, 1032, 768]⟩
abbrev S1032x1 : Shape := ⟨2, ![1032, 1]⟩
abbrev S1032x1024 : Shape := ⟨2, ![1032, 1024]⟩
abbrev S1032x2176 : Shape := ⟨2, ![1032, 2176]⟩
abbrev S1032x896 : Shape := ⟨2, ![1032, 896]⟩
abbrev S1032x768 : Shape := ⟨2, ![1032, 768]⟩

abbrev nBuf : Space → Nat
  | .hbm => 17
  | .vmem => 11
  | .smem => 0
  | _ => 0

abbrev bufTy : (tb : Table) → Fin (tcTables nBuf tb) → BufTy
  | .hbm, ⟨0, _⟩ => ⟨S4x8256x1024, .f32⟩
  | .hbm, ⟨1, _⟩ => ⟨S1024x3720, .f32⟩
  | .hbm, ⟨2, _⟩ => ⟨S1024x2056, .f32⟩
  | .hbm, ⟨3, _⟩ => ⟨S_, .f32⟩
  | .hbm, ⟨4, _⟩ => ⟨S1024x120, .f32⟩
  | .hbm, ⟨5, _⟩ => ⟨S1024x2176, .f32⟩
  | .hbm, ⟨6, _⟩ => ⟨S1024x896, .f32⟩
  | .hbm, ⟨7, _⟩ => ⟨S1024x768, .f32⟩
  | .hbm, ⟨8, _⟩ => ⟨S4x8192x1024, .f32⟩
  | .hbm, ⟨9, _⟩ => ⟨S4x64x1024, .f32⟩
  | .hbm, ⟨10, _⟩ => ⟨S4x8256x1024, .f32⟩
  | .hbm, ⟨11, _⟩ => ⟨S1024x2176, .bf16⟩
  | .hbm, ⟨12, _⟩ => ⟨S1024x896, .bf16⟩
  | .hbm, ⟨13, _⟩ => ⟨S1024x768, .bf16⟩
  | .hbm, ⟨14, _⟩ => ⟨S4x8256x2176, .f32⟩
  | .hbm, ⟨15, _⟩ => ⟨S4x8256x896, .f32⟩
  | .hbm, ⟨16, _⟩ => ⟨S4x8256x768, .f32⟩
  | .local _ .vmem, ⟨0, _⟩ => ⟨S1x1032x1024, .f32⟩
  | .local _ .vmem, ⟨1, _⟩ => ⟨S1x1032x1024, .f32⟩
  | .local _ .vmem, ⟨2, _⟩ => ⟨S1024x2176, .bf16⟩
  | .local _ .vmem, ⟨3, _⟩ => ⟨S1024x896, .bf16⟩
  | .local _ .vmem, ⟨4, _⟩ => ⟨S1024x768, .bf16⟩
  | .local _ .vmem, ⟨5, _⟩ => ⟨S1x1032x2176, .f32⟩
  | .local _ .vmem, ⟨6, _⟩ => ⟨S1x1032x2176, .f32⟩
  | .local _ .vmem, ⟨7, _⟩ => ⟨S1x1032x896, .f32⟩
  | .local _ .vmem, ⟨8, _⟩ => ⟨S1x1032x896, .f32⟩
  | .local _ .vmem, ⟨9, _⟩ => ⟨S1x1032x768, .f32⟩
  | .local _ .vmem, ⟨10, _⟩ => ⟨S1x1032x768, .f32⟩
  | _, _ => ⟨S4x8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1032x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1032x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1032x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1032x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x8256x1024 : Shape := ⟨3, ![4, 8256, 1024]⟩
abbrev S1024x3720 : Shape := ⟨2, ![1024, 3720]⟩
abbrev S8256 : Shape := ⟨1, ![8256]⟩
abbrev S_ : Shape := ⟨0, ![]⟩
abbrev S1x8256x1 : Shape := ⟨3, ![1, 8256, 1]⟩
abbrev S4x8256x3720 : Shape := ⟨3, ![4, 8256, 3720]⟩
abbrev S4x8256x2056 : Shape := ⟨3, ![4, 8256, 2056]⟩
abbrev S4x8256x896 : Shape := ⟨3, ![4, 8256, 896]⟩
abbrev S4x8256x768 : Shape := ⟨3, ![4, 8256, 768]⟩
abbrev S4x8256x120 : Shape := ⟨3, ![4, 8256, 120]⟩
abbrev S4x8256x2176 : Shape := ⟨3, ![4, 8256, 2176]⟩
abbrev S4x8192x2176 : Shape := ⟨3, ![4, 8192, 2176]⟩
abbrev S4x64x2176 : Shape := ⟨3, ![4, 64, 2176]⟩
abbrev S4x8192x896 : Shape := ⟨3, ![4, 8192, 896]⟩
abbrev S4x64x896 : Shape := ⟨3, ![4, 64, 896]⟩
abbrev S4x8192x768 : Shape := ⟨3, ![4, 8192, 768]⟩
abbrev S4x64x768 : Shape := ⟨3, ![4, 64, 768]⟩

abbrev nBuf : Space → Nat
  | .hbm => 26
  | .vmem => 0
  | .smem => 0
  | _ => 0

abbrev bufTy : (tb : Table) → Fin (tcTables nBuf tb) → BufTy
  | .hbm, ⟨0, _⟩ => ⟨S4x8256x1024, .f32⟩
  | .hbm, ⟨1, _⟩ => ⟨S1024x3720, .f32⟩
  | .hbm, ⟨2, _⟩ => ⟨S8256, .i32⟩
  | .hbm, ⟨3, _⟩ => ⟨S_, .i32⟩
  | .hbm, ⟨4, _⟩ => ⟨S8256, .i32⟩
  | .hbm, ⟨5, _⟩ => ⟨S8256, .i1⟩
  | .hbm, ⟨6, _⟩ => ⟨S8256, .f32⟩
  | .hbm, ⟨7, _⟩ => ⟨S1x8256x1, .f32⟩
  | .hbm, ⟨8, _⟩ => ⟨S4x8256x1024, .f32⟩
  | .hbm, ⟨9, _⟩ => ⟨S4x8256x1024, .f32⟩
  | .hbm, ⟨10, _⟩ => ⟨S4x8256x3720, .f32⟩
  | .hbm, ⟨11, _⟩ => ⟨S4x8256x2056, .f32⟩
  | .hbm, ⟨12, _⟩ => ⟨S4x8256x896, .f32⟩
  | .hbm, ⟨13, _⟩ => ⟨S4x8256x768, .f32⟩
  | .hbm, ⟨14, _⟩ => ⟨S_, .f32⟩
  | .hbm, ⟨15, _⟩ => ⟨S4x8256x120, .f32⟩
  | .hbm, ⟨16, _⟩ => ⟨S4x8256x2176, .f32⟩
  | .hbm, ⟨17, _⟩ => ⟨S4x8192x2176, .f32⟩
  | .hbm, ⟨18, _⟩ => ⟨S4x64x2176, .f32⟩
  | .hbm, ⟨19, _⟩ => ⟨S4x8256x2176, .f32⟩
  | .hbm, ⟨20, _⟩ => ⟨S4x8192x896, .f32⟩
  | .hbm, ⟨21, _⟩ => ⟨S4x64x896, .f32⟩
  | .hbm, ⟨22, _⟩ => ⟨S4x8256x896, .f32⟩
  | .hbm, ⟨23, _⟩ => ⟨S4x8192x768, .f32⟩
  | .hbm, ⟨24, _⟩ => ⟨S4x64x768, .f32⟩
  | .hbm, ⟨25, _⟩ => ⟨S4x8256x768, .f32⟩
  | _, _ => ⟨S4x8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Proof.Rows.lean ====
/-
  The layer's row mathematics, stated once for all the calls: the mean and the layer norm of a row of 1024 numbers, the
  gated feed-forward of a row, and the split of its 2816 hidden units into the three pieces the kernels add up.
-/
module

public import Idealize.ShloMosaic.Lib.Pointwise

@[expose] public section

noncomputable section

namespace Cert.Rows

open Idealize.ShloMosaic

/-- The mean of a row: its sum over 1024. -/
def mean (y : Fin 1024 → EReal) : EReal := Ideal.div (∑ k, y k) (Ideal.ofBits .f32 0x44800000#32)

/-- The layer norm of a row with gain `g` and offset `b`, with the layer's ε. -/
def norm (y g b : Fin 1024 → EReal) (j : Fin 1024) : EReal :=
  (y j - mean y) * Ideal.rsqrt (mean (fun k => (y k - mean y) * (y k - mean y)) + Ideal.ofBits .f32 0x3727C5AC#32) * g j + b j

/-- One hidden unit of the gated feed-forward: `silu(x · wg) * (x · wu)`, the columns `wg` and `wu` given. -/
def hidden (x wg wu : Fin 1024 → EReal) : EReal :=
  (∑ k, x k * wg k) * Ideal.logistic (∑ k, x k * wg k) * ∑ k, x k * wu k

/-- The gated feed-forward of a row: `w1`'s first 2816 columns are the gates, its last 2816 the values. -/
def ffn (x : Fin 1024 → EReal) (w1 : Fin 1024 → Fin 5632 → EReal) (w2 : Fin 2816 → Fin 1024 → EReal) (j : Fin 1024) : EReal :=
  ∑ f : Fin 2816, hidden x (fun k => w1 k ⟨f.val, by omega⟩) (fun k => w1 k ⟨2816 + f.val, by omega⟩) * w2 f j

/-- The residual branch with weights `α` and one half, normed: `LN(α x + ½ ffn(x))`. -/
def ffnNorm (x : Fin 1024 → EReal) (w1 : Fin 1024 → Fin 5632 → EReal) (w2 : Fin 2816 → Fin 1024 → EReal)
    (g b : Fin 1024 → EReal) (j : Fin 1024) : EReal :=
  norm (fun k => Ideal.ofBits .f32 0x3FB504F3#32 * x k + Ideal.ofBits .f32 0x3F000000#32 * ffn x w1 w2 k) g b j

/-- The residual after the mixers, normed: `LN(α h + y · w)`. -/
def mixNorm (h y : Fin 1024 → EReal) (w : Fin 1024 → Fin 1024 → EReal) (g b : Fin 1024 → EReal) (j : Fin 1024) : EReal :=
  norm (fun k => Ideal.ofBits .f32 0x3FB504F3#32 * h k + ∑ i, y i * w i k) g b j

/-- A sum over 2816 in the kernels' pieces of 1024, 1024 and 768. -/
theorem sum_2816 (f : Fin 2816 → EReal) :
    ∑ i, f i = (∑ i : Fin 1024, f ⟨i.val, by omega⟩) + (∑ i : Fin 1024, f ⟨1024 + i.val, by omega⟩)
      + ∑ i : Fin 768, f ⟨2048 + i.val, by omega⟩ := by
  rw [← Fin.sum_congr' f (show 1024 + 1024 + 768 = 2816 from rfl), Fin.sum_univ_add, Fin.sum_univ_add]
  rfl

end Cert.Rows

end
-- ==== Proof.Ffn1Block.lean ====
/-
  The feed-forward call, one block: what the body leaves in the result's block, row by row, is the normed feed-forward of
  the block's row.
-/
module

public import proofs.«01_k».proof.Proof.Gen.Kernel3Ideal.Frame
public import proofs.«01_k».proof.Proof.Rows
public import Idealize.ShloMosaic.Lib.Pointwise
public import Idealize.ShloMosaic.Lib.Pipeline.ValueKit

@[expose] public section

set_option maxRecDepth 16384

noncomputable section

namespace Cert.Kernel3Ideal.Ffn

open Cert.Kernel3Ideal Cert.Kernel3Ideal.Gen Idealize.ShloMosaic

variable (x0 : Vec Ideal S1x1032x1024 .f32) (x1 : Vec Ideal S1x1024x5632 .bf16) (x2 : Vec Ideal S1x2816x1024 .bf16)
  (x3 x4 : Vec Ideal S1x1024 .f32)

/-- A row of the block. -/
abbrev row (r : Fin 1032) : Fin 1024 → EReal := fun k => x0 (ix3 0 r k)
/-- The first weight as a matrix. -/
abbrev mat1 : Fin 1024 → Fin 5632 → EReal := fun k f => x1 (ix3 0 k f)
/-- The second weight as a matrix. -/
abbrev mat2 : Fin 2816 → Fin 1024 → EReal := fun f k => x2 (ix3 0 f k)

/-- The weighted residual and feed-forward of a row, which the norm is taken of. -/
abbrev pre (r : Fin 1032) : Fin 1024 → EReal := fun k =>
  Ideal.ofBits .f32 0x3FB504F3#32 * row x0 r k + Ideal.ofBits .f32 0x3F000000#32 * Rows.ffn (row x0 r) (mat1 x1) (mat2 x2) k

/-- The centred value the body computes: the three pieces of the hidden sum are the whole sum. -/
theorem centred_apply (r : Fin 1032) (j : Fin 1024) :
    k0_pay9 (k0_pay13 x0 x1 x2 x3 x4) (k0_pay14 x0 x1 x2 x3 x4) (k0_pay15 x0 x1 x2 x3 x4) (k0_pay16 x0 x1 x2 x3 x4)
      (k0_pay17 x0 x1 x2 x3 x4) (k0_pay12 x0 x1 x2 x3 x4) (View.ld x1 r0_7) (View.ld x1 r0_8) (View.ld x2 r0_9) (ix2 r j)
    = pre x0 x1 x2 r j - Rows.mean (pre x0 x1 x2 r) := by
  simp only [Rows.mean, pre, Rows.ffn, Rows.sum_2816, Rows.hidden, row, mat1, mat2]
  pointwise [k0_pay9, k0_pay13, k0_pay14, k0_pay15, k0_pay16, k0_pay17, k0_pay12, k0_pay2, k0_pay3, k0_pay4, k0_pay5, k0_pay6]
  simp only [← Nat.add_assoc, Nat.reduceAdd]

/-- The block the body leaves, at a row and a column: the normed feed-forward of that row. -/
theorem out_apply (r : Fin 1032) (j : Fin 1024) :
    out0_5 x0 x1 x2 x3 x4 (ix3 0 r j)
      = Rows.ffnNorm (row x0 r) (mat1 x1) (mat2 x2) (fun k => x3 (ix2 0 k)) (fun k => x4 (ix2 0 k)) j := by
  have h := centred_apply x0 x1 x2 x3 x4
  unfold out0_5
  frame_out
  unfold k0_pay10
  generalize k0_pay9 (k0_pay13 x0 x1 x2 x3 x4) (k0_pay14 x0 x1 x2 x3 x4) (k0_pay15 x0 x1 x2 x3 x4) (k0_pay16 x0 x1 x2 x3 x4)
      (k0_pay17 x0 x1 x2 x3 x4) (k0_pay12 x0 x1 x2 x3 x4) (View.ld x1 r0_7) (View.ld x1 r0_8) (View.ld x2 r0_9) = y at h ⊢
  pointwise [k0_pay1, k0_pay7, k0_pay8, k0_pay11]
  simp only [h]
  rfl

end Cert.Kernel3Ideal.Ffn

end
-- ==== Proof.Ffn1Array.lean ====
/-
  The feed-forward call's result array: every row is the normed feed-forward of the argument's row.
-/
module

public import proofs.«01_k».proof.Proof.Gen.Kernel3Ideal.Value
public import proofs.«01_k».proof.Proof.Ffn1Block

@[expose] public section

set_option maxRecDepth 16384

noncomputable section

namespace Cert.Kernel3Ideal.Ffn

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The result the call is shown to leave, from the five arguments. -/
abbrev result : Vec Ideal S4x8256x1024 .f32 := fun i =>
  Rows.ffnNorm (fun k => m ((c : Thread nD τ).loc main_arg0) (ix3 (i 0) (i 1) k))
    (fun k f => m ((c : Thread nD τ).loc main_arg1) (ix3 1 k f))
    (fun f k => m ((c : Thread nD τ).loc main_arg2) (ix3 1 f k))
    (fun k => m ((c : Thread nD τ).loc main_arg3) (ix3 1 0 k))
    (fun k => m ((c : Thread nD τ).loc main_arg4) (ix3 1 0 k)) (i 2)

/-- The block indices of the windows at a point. -/
theorem index0 : ∀ t, win0_0.index t = ![(grid0.coords t 0).val, (grid0.coords t 1).val, 0] := by decide +kernel
theorem index1 : ∀ t, win0_1.index t = ![1, 0, 0] := by decide +kernel
theorem index2 : ∀ t, win0_2.index t = ![1, 0, 0] := by decide +kernel
theorem index3 : ∀ t, win0_3.index t = ![0, 0] := by decide +kernel
theorem index4 : ∀ t, win0_4.index t = ![0, 0] := by decide +kernel
theorem index5 : ∀ t, win0_5.index t = ![(grid0.coords t 0).val, (grid0.coords t 1).val, 0] := by decide +kernel

/-- Reading the arguments through the windows' blocks. -/
theorem read0 (t : Fin cfg0.N) (r : Fin 1032) (j k : Fin 1024) :
    iblk m c 0 t (ix3 0 r k) = m ((c : Thread nD τ).loc main_arg0)
      (ix3 (((cfg0.win 5).blk t).view.emb (ix3 0 r j) 0) (((cfg0.win 5).blk t).view.emb (ix3 0 r j) 1) k) := by
  blk_ext [iblk, V, index0 t, index5 t]

theorem read1 (t : Fin cfg0.N) (k : Fin 1024) (f : Fin 5632) :
    iblk m c 1 t (ix3 0 k f) = m ((c : Thread nD τ).loc main_arg1) (ix3 1 k f) := by
  blk_ext! [iblk, V, index1 t]

theorem read2 (t : Fin cfg0.N) (k : Fin 2816) (f : Fin 1024) :
    iblk m c 2 t (ix3 0 k f) = m ((c : Thread nD τ).loc main_arg2) (ix3 1 k f) := by
  blk_ext! [iblk, V, index2 t]

theorem read3 (t : Fin cfg0.N) (k : Fin 1024) :
    iblk m c 3 t (ix2 0 k) = m ((c : Thread nD τ).loc main_arg3) (ix3 1 0 k) := by
  blk_ext! [iblk, V, index3 t]

theorem read4 (t : Fin cfg0.N) (k : Fin 1024) :
    iblk m c 4 t (ix2 0 k) = m ((c : Thread nD τ).loc main_arg4) (ix3 1 0 k) := by
  blk_ext! [iblk, V, index4 t]

/-- The column of a block's element. -/
theorem column (t : Fin cfg0.N) (r : Fin 1032) (j : Fin 1024) : ((cfg0.win 5).blk t).view.emb (ix3 0 r j) 2 = j := by
  apply Fin.ext
  blk_simp [index5 t]

/-- What a point leaves in its block is its block of `result`. -/
theorem block (t : Fin cfg0.N) (r : Fin 1032) (j : Fin 1024) :
    out0_5 (iblk m c 0 t) (iblk m c 1 t) (iblk m c 2 t) (iblk m c 3 t) (iblk m c 4 t) (ix3 0 r j)
      = result m c (((cfg0.win 5).blk t).view.emb (ix3 0 r j)) := by
  have h2 := column t r j
  have h0 := fun k => read0 m c t r j k
  generalize ((cfg0.win 5).blk t).view.emb (ix3 0 r j) = e at h0 h2 ⊢
  have h1 := fun k f => read1 m c t k f
  have h3 := fun k f => read2 m c t k f
  have h4 := fun k => read3 m c t k
  have h5 := fun k => read4 m c t k
  revert h0 h1 h3 h4 h5
  generalize iblk m c 0 t = x0
  generalize iblk m c 1 t = x1
  generalize iblk m c 2 t = x2
  generalize iblk m c 3 t = x3
  generalize iblk m c 4 t = x4
  intro h0 h1 h3 h4 h5
  rw [out_apply x0 x1 x2 x3 x4 r j]
  have e0 : row x0 r = fun k => m ((c : Thread nD τ).loc main_arg0) (ix3 (e 0) (e 1) k) := funext h0
  have e1 : mat1 x1 = fun k f => m ((c : Thread nD τ).loc main_arg1) (ix3 1 k f) := funext fun k => funext fun f => h1 k f
  have e2 : mat2 x2 = fun f k => m ((c : Thread nD τ).loc main_arg2) (ix3 1 f k) := funext fun k => funext fun f => h3 k f
  have e3 : (fun k => x3 (ix2 0 k)) = fun k => m ((c : Thread nD τ).loc main_arg3) (ix3 1 0 k) := funext h4
  have e4 : (fun k => x4 (ix2 0 k)) = fun k => m ((c : Thread nD τ).loc main_arg4) (ix3 1 0 k) := funext h5
  rw [e0, e1, e2, e3, e4, ← h2]

/-- The array the call leaves. -/
theorem final : (dats m 0 c).arrAt 5 cfg0.N = result m c := by
  refine (dats m 0 c).arrAt_eq_of_covers 5 _ (by decide +kernel) fun t hf y => ?_
  idx_vars y
  obtain rfl : y0 = 0 := Subsingleton.elim _ _
  blk_simp
  rw [after0_5]
  exact block m c t y1 y2

end Cert.Kernel3Ideal.Ffn

end
-- ==== Proof.Ffn1Ref.lean ====
/-
  The feed-forward reference, read at a row and a column.
-/
module

public import proofs.«01_k».proof.Proof.Gen.Reference3Ideal.Run
public import proofs.«01_k».proof.Proof.Rows
public import Idealize.ShloMosaic.Lib.Tactic.CleanTypes

@[expose] public section

set_option maxRecDepth 16384

noncomputable section

namespace Cert.Reference3Ideal.Ffn

open Cert.Reference3Ideal Cert.Reference3Ideal.Gen Idealize.ShloMosaic Idealize.ShloMosaic.TcCoe Idealize.SL.Sem

variable (m : (ℓ : Loc nD τ sig) → Buf (Elt Ideal) ℓ) (c : Dev nD)

/-- The reference's result at a row and a column is the normed feed-forward of the argument's row. -/
theorem result_apply (b : Fin 4) (p : Fin 8256) (j : Fin 1024) :
    Value.res_main_v42 m c (ix3 b p j) =
  Rows.ffnNorm (fun k => m ((c.tc : Thread nD τ).loc main_arg0) (ix3 b p k))
    (fun k f => m ((c.tc : Thread nD τ).loc main_arg1) (ix3 1 k f))
    (fun f k => m ((c.tc : Thread nD τ).loc main_arg2) (ix3 1 f k))
    (fun k => m ((c.tc : Thread nD τ).loc main_arg3) (ix3 1 0 k))
    (fun k => m ((c.tc : Thread nD τ).loc main_arg4) (ix3 1 0 k)) j := by
  simp only [Rows.ffnNorm, Rows.norm, Rows.mean, Rows.ffn, Rows.hidden]
  unfold Value.res_main_v42
  clean_types
  pointwise [Ideal.logistic]

end Cert.Reference3Ideal.Ffn

end
-- ==== Proof.Ffn1Claim.lean ====
/-
  The feed-forward call against its reference: the claims about the two programs.
-/
module

public import proofs.«01_k».proof.Defs
public import proofs.«01_k».proof.Proof.Ffn1Array
public import proofs.«01_k».proof.Proof.Ffn1Ref
public import Idealize.ShloMosaic.Lib.Quiescent

@[expose] public section

noncomputable section

namespace Cert.Proof.Ffn

open Idealize.ShloMosaic Idealize.ShloMosaic.TcCoe Idealize.SL.Sem

/-- The reference runs and keeps its arguments. -/
theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Over the extended reals the call and the reference leave the same array. -/
theorem algebraic : Cert.algebraic_Kernel3Ideal_Reference3Ideal := by
  intro m ρ m' ρ' _ hagree
  refine ⟨fun c => Cert.Kernel3Ideal.Ffn.result m c, ?_, ?_⟩
  · exact (θ_run Cert.Kernel3Ideal.defs _ _).mono
      (fun _ h c => ⟨(h c).1.trans (Cert.Kernel3Ideal.Ffn.final m c), (h c).2⟩)
      (Cert.Kernel3Ideal.Value.run_blocks (F := Ideal) m ρ)
  refine (θ_run Cert.Reference3Ideal.defs _ _).mono (fun _ h c => ⟨(h c).1.trans ?_, (h c).2⟩)
    (Cert.Reference3Ideal.Value.run (F := Ideal) m' ρ')
  funext i
  obtain ⟨h0, h1, h2, h3, h4⟩ := hagree c
  have hi : i = ix3 (i 0) (i 1) (i 2) := by funext a; fin_cases a <;> rfl
  rw [hi]
  refine (Cert.Reference3Ideal.Ffn.result_apply m' c (i 0) (i 1) (i 2)).trans ?_
  rw [h0, h1, h2, h3, h4]
  rfl

end Cert.Proof.Ffn

end
-- ==== Proof.Ffn2Block.lean ====
/-
  The call after the mixers, one block: what the body leaves in the result's block, row by row.
-/
module

public import proofs.«01_k».proof.Proof.Gen.Kernel2Ideal.Frame
public import proofs.«01_k».proof.Proof.Rows
public import Idealize.ShloMosaic.Lib.Pointwise
public import Idealize.ShloMosaic.Lib.Pipeline.ValueKit

@[expose] public section

set_option maxRecDepth 16384

noncomputable section

namespace Cert.Kernel2Ideal.Ffn

open Cert.Kernel2Ideal Cert.Kernel2Ideal.Gen Idealize.ShloMosaic

variable (x0 : Vec Ideal S1x1024x1024 .f32) (x1 x2 : Vec Ideal S1x1024x1024 .bf16) (x3 x4 : Vec Ideal S1x1024 .f32)
  (x5 : Vec Ideal S1x1024x5632 .bf16) (x6 : Vec Ideal S1x2816x1024 .bf16) (x7 x8 : Vec Ideal S1x1024 .f32)

/-- The residual after the mixers, as the body computes it, is the normed mixed row. -/
theorem mixed_apply (r j : Fin 1024) :
    k0_pay2 x1 x2 x0 x3 x4 (ix2 r j)
    = Rows.mixNorm (fun k => x0 (ix3 0 r k)) (fun k => x1 (ix3 0 r k)) (fun k f => x2 (ix3 0 k f))
        (fun k => x3 (ix2 0 k)) (fun k => x4 (ix2 0 k)) j := by
  simp only [Rows.mixNorm, Rows.norm, Rows.mean]
  pointwise [k0_pay2]

/-- The second half of the body on rows `h`: the three pieces of the hidden sum are the whole sum. -/
theorem second_apply (h : FVec Ideal S1024x1024 .f32) (r j : Fin 1024) :
    k0_pay1 (k0_pay7 h (truncf .bf16 h bitsLt_bf16_f32)
      (k0_pay5 (truncf .bf16 h bitsLt_bf16_f32) k0_pay4 (View.ld x5 (Rect.unit (s := S1x1024x5632) ![0, 0, 0] S1x1024x1024.size inb_S1x1024x5632_S1x1024x1024_0_0_0)) (View.ld x5 (Rect.unit (s := S1x1024x5632) ![0, 0, 2816] S1x1024x1024.size inb_S1x1024x5632_S1x1024x1024_0_0_2816)) (View.ld x6 (Rect.unit (s := S1x2816x1024) ![0, 0, 0] S1x1024x1024.size inb_S1x2816x1024_S1x1024x1024_0_0_0)) (View.ld x5 (Rect.unit (s := S1x1024x5632) ![0, 0, 1024] S1x1024x1024.size inb_S1x1024x5632_S1x1024x1024_0_0_1024)) (View.ld x5 (Rect.unit (s := S1x1024x5632) ![0, 0, 3840] S1x1024x1024.size inb_S1x1024x5632_S1x1024x1024_0_0_3840)) (View.ld x6 (Rect.unit (s := S1x2816x1024) ![0, 1024, 0] S1x1024x1024.size inb_S1x2816x1024_S1x1024x1024_0_1024_0)))
      (k0_pay6 (truncf .bf16 h bitsLt_bf16_f32) (View.ld x5 (Rect.unit (s := S1x1024x5632) ![0, 0, 2048] S1x1024x768.size inb_S1x1024x5632_S1x1024x768_0_0_2048))) (View.ld x5 (Rect.unit (s := S1x1024x5632) ![0, 0, 4864] S1x1024x768.size inb_S1x1024x5632_S1x1024x768_0_0_4864)) (View.ld x6 (Rect.unit (s := S1x2816x1024) ![0, 2048, 0] S1x768x1024.size inb_S1x2816x1024_S1x768x1024_0_2048_0)) x7 x8) (ix3 0 r j)
    = Rows.ffnNorm (fun k => h (ix2 r k)) (fun k f => x5 (ix3 0 k f)) (fun f k => x6 (ix3 0 f k))
        (fun k => x7 (ix2 0 k)) (fun k => x8 (ix2 0 k)) j := by
  simp only [Rows.ffnNorm, Rows.norm, Rows.mean, Rows.ffn, Rows.sum_2816, Rows.hidden]
  pointwise [k0_pay1, k0_pay7, k0_pay5, k0_pay4, k0_pay6]
  simp only [← Nat.add_assoc, Nat.reduceAdd]

/-- The block the body leaves, at a row and a column. -/
theorem out_apply (c : Dev nD) (i : grid0.Coords) (arg2 : Memref sig .tc .vmem S1x1024x1024 .f32) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x5632 .bf16) (harg7 : arg7.IsWhole) (arg8 : Memref sig .tc .vmem S1x2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024x1024 .f32) (harg11 : arg11.IsWhole) (r j : Fin 1024) :
    out0_A_9 c i arg2 harg2 arg3 harg3 arg4 harg4 arg5 harg5 arg6 harg6 arg7 harg7 arg8 harg8 arg9 harg9 arg10 harg10 arg11 harg11 x0 x1 x2 x3 x4 x5 x6 x7 x8 (ix3 0 r j)
    = Rows.ffnNorm
        (Rows.mixNorm (fun k => x0 (ix3 0 r k)) (fun k => x1 (ix3 0 r k)) (fun k f => x2 (ix3 0 k f))
          (fun k => x3 (ix2 0 k)) (fun k => x4 (ix2 0 k)))
        (fun k f => x5 (ix3 0 k f)) (fun f k => x6 (ix3 0 f k)) (fun k => x7 (ix2 0 k)) (fun k => x8 (ix2 0 k)) j := by
  unfold out0_A_9
  frame_out
  unfold k0_pay3
  rw [second_apply]
  simp only [mixed_apply]

end Cert.Kernel2Ideal.Ffn

end
-- ==== Proof.Ffn2Array.lean ====
/-
  The result array of the call after the mixers: every row from the arguments' rows, whose order of storage the host
  changes first.
-/
module

public import proofs.«01_k».proof.Proof.Gen.Kernel2Ideal.Value
public import proofs.«01_k».proof.Proof.Ffn2Block

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The result the call is shown to leave, from the seven arguments: row `p` is made of the arguments' rows `64 + p`. -/
abbrev result : Vec Ideal S4x8192x1024 .f32 := fun i =>
  Rows.ffnNorm
    (Rows.mixNorm (fun k => m ((c : Thread nD τ).loc main_arg0) (ix3 (i 0) ⟨64 + (i 1).val, Nat.add_lt_add_left (i 1).isLt 64⟩ k))
      (fun k => m ((c : Thread nD τ).loc main_arg1) (ix3 (i 0) ⟨64 + (i 1).val, Nat.add_lt_add_left (i 1).isLt 64⟩ k))
      (fun k f => m ((c : Thread nD τ).loc main_arg2) (ix3 1 k f))
      (fun k => m ((c : Thread nD τ).loc main_arg3) (ix3 1 1 k))
      (fun k => m ((c : Thread nD τ).loc main_arg4) (ix3 1 1 k)))
    (fun k f => m ((c : Thread nD τ).loc main_arg5) (ix3 1 k f))
    (fun f k => m ((c : Thread nD τ).loc main_arg6) (ix3 1 f k))
    (fun k => m ((c : Thread nD τ).loc main_arg3) (ix3 1 2 k))
    (fun k => m ((c : Thread nD τ).loc main_arg4) (ix3 1 2 k)) (i 2)

/-- The block indices of the windows at a point. -/
theorem index0 : ∀ t, win0_0.index t = ![(grid0.coords t 0).val, (grid0.coords t 1).val, 0] := by decide +kernel
theorem index1 : ∀ t, win0_1.index t = ![(grid0.coords t 0).val, (grid0.coords t 1).val, 0] := by decide +kernel
theorem index2 : ∀ t, win0_2.index t = ![1, 0, 0] := by decide +kernel
theorem index3 : ∀ t, win0_3.index t = ![0, 0] := by decide +kernel
theorem index4 : ∀ t, win0_4.index t = ![0, 0] := by decide +kernel
theorem index5 : ∀ t, win0_5.index t = ![1, 0, 0] := by decide +kernel
theorem index6 : ∀ t, win0_6.index t = ![1, 0, 0] := by decide +kernel
theorem index7 : ∀ t, win0_7.index t = ![0, 0] := by decide +kernel
theorem index8 : ∀ t, win0_8.index t = ![0, 0] := by decide +kernel
theorem index9 : ∀ t, win0_9.index t = ![(grid0.coords t 0).val, (grid0.coords t 1).val, 0] := by decide +kernel

/-- Reading the arguments through the windows' blocks. -/
theorem read2 (t : Fin cfg0.N) (k f : Fin 1024) :
    iblk m c 2 t (ix3 0 k f) = m ((c : Thread nD τ).loc main_arg2) (ix3 1 k f) := by
  blk_ext! [iblk, V, index2 t]

theorem read3 (t : Fin cfg0.N) (k : Fin 1024) :
    iblk m c 3 t (ix2 0 k) = m ((c : Thread nD τ).loc main_arg3) (ix3 1 1 k) := by
  blk_ext! [iblk, V, index3 t]

theorem read4 (t : Fin cfg0.N) (k : Fin 1024) :
    iblk m c 4 t (ix2 0 k) = m ((c : Thread nD τ).loc main_arg4) (ix3 1 1 k) := by
  blk_ext! [iblk, V, index4 t]

theorem read5 (t : Fin cfg0.N) (k : Fin 1024) (f : Fin 5632) :
    iblk m c 5 t (ix3 0 k f) = m ((c : Thread nD τ).loc main_arg5) (ix3 1 k f) := by
  blk_ext! [iblk, V, index5 t]

theorem read6 (t : Fin cfg0.N) (k : Fin 2816) (f : Fin 1024) :
    iblk m c 6 t (ix3 0 k f) = m ((c : Thread nD τ).loc main_arg6) (ix3 1 k f) := by
  blk_ext! [iblk, V, index6 t]

theorem read7 (t : Fin cfg0.N) (k : Fin 1024) :
    iblk m c 7 t (ix2 0 k) = m ((c : Thread nD τ).loc main_arg3) (ix3 1 2 k) := by
  blk_ext! [iblk, V, index7 t]

theorem read8 (t : Fin cfg0.N) (k : Fin 1024) :
    iblk m c 8 t (ix2 0 k) = m ((c : Thread nD τ).loc main_arg4) (ix3 1 2 k) := by
  blk_ext! [iblk, V, index8 t]

/-- The two row windows: their blocks are never cut, and a block's row is the argument's, 64 further on. -/
theorem read0 (t : Fin cfg0.N) (r j k : Fin 1024) :
    X0_0 m c t (ix3 0 r k) = m ((c : Thread nD τ).loc main_arg0)
      (ix3 (((cfg0.win 9).blk t).view.emb (ix3 0 r j) 0)
        ⟨64 + (((cfg0.win 9).blk t).view.emb (ix3 0 r j) 1).val, Nat.add_lt_add_left (((cfg0.win 9).blk t).view.emb (ix3 0 r j) 1).isLt 64⟩ k) := by
  unfold X0_0 Pipeline.Window.fill
  rw [dif_pos (moved0_0 t _)]
  blk_simp [iblk, V, index0 t, index9 t]
  entry_read
  pointwise
  split_ifs with h
  · blk_ext [index0 t, index9 t]
  · exfalso
    have := (grid0.coords t 1).isLt
    blk_simp [index0 t] at h
    simp only [Nat.not_lt] at h
    have : (grid0.coords t 1).val < 8 := (grid0.coords t 1).isLt
    omega
  · exact absurd rfl ‹_›

theorem read1 (t : Fin cfg0.N) (r j k : Fin 1024) :
    X0_1 m c t (ix3 0 r k) = m ((c : Thread nD τ).loc main_arg1)
      (ix3 (((cfg0.win 9).blk t).view.emb (ix3 0 r j) 0)
        ⟨64 + (((cfg0.win 9).blk t).view.emb (ix3 0 r j) 1).val, Nat.add_lt_add_left (((cfg0.win 9).blk t).view.emb (ix3 0 r j) 1).isLt 64⟩ k) := by
  unfold X0_1 Pipeline.Window.fill
  rw [dif_pos (moved0_1 t _)]
  blk_simp [iblk, V, index1 t, index9 t]
  entry_read
  pointwise
  split_ifs with h
  · blk_ext [index1 t, index9 t]
  · exfalso
    have := (grid0.coords t 1).isLt
    blk_simp [index1 t] at h
    simp only [Nat.not_lt] at h
    have : (grid0.coords t 1).val < 8 := (grid0.coords t 1).isLt
    omega
  · exact absurd rfl ‹_›

/-- The column of a block's element. -/
theorem column (t : Fin cfg0.N) (r j : Fin 1024) : ((cfg0.win 9).blk t).view.emb (ix3 0 r j) 2 = j := by
  apply Fin.ext
  blk_simp [index9 t]

/-- What a point leaves in its block is its block of `result`. -/
theorem block (t : Fin cfg0.N) (r j : Fin 1024) :
    outsAt0 m c t (ix3 0 r j) = result m c (((cfg0.win 9).blk t).view.emb (ix3 0 r j)) := by
  have h2 := column t r j
  have h0 := fun k => read0 m c t r j k
  have h1 := fun k => read1 m c t r j k
  unfold outsAt0
  rw [out_apply]
  generalize ((cfg0.win 9).blk t).view.emb (ix3 0 r j) = e at h0 h1 h2 ⊢
  have g2 := fun k f => read2 m c t k f
  have g3 := fun k => read3 m c t k
  have g4 := fun k => read4 m c t k
  have g5 := fun k f => read5 m c t k f
  have g6 := fun k f => read6 m c t k f
  have g7 := fun k => read7 m c t k
  have g8 := fun k => read8 m c t k
  simp only [h0, h1, g2, g3, g4, g5, g6, g7, g8, ← h2]

/-- The array the call leaves. -/
theorem final : (dats m 0 c).arrAt 9 cfg0.N = result m c := by
  refine (dats m 0 c).arrAt_eq_of_covers 9 _ (by decide +kernel) fun t hf y => ?_
  idx_vars y
  obtain rfl : y0 = 0 := Subsingleton.elim _ _
  blk_simp
  rw [after0_9]
  exact block m c t y1 y2

end Cert.Kernel2Ideal.Ffn

end
-- ==== Proof.Ffn2Ref.lean ====
/-
  The reference of the call after the mixers, read at a row and a column.
-/
module

public import proofs.«01_k».proof.Proof.Gen.Reference2Ideal.Run
public import proofs.«01_k».proof.Proof.Rows
public import Idealize.ShloMosaic.Lib.Tactic.CleanTypes

@[expose] public section

set_option maxRecDepth 16384

noncomputable section

namespace Cert.Reference2Ideal.Ffn

open Cert.Reference2Ideal Cert.Reference2Ideal.Gen Idealize.ShloMosaic Idealize.ShloMosaic.TcCoe Idealize.SL.Sem
open Cert.Reference2Ideal.Value

variable (V0 : Valuation τ sig (Elt Ideal))

/-- A row of the residual after the mixers. -/
abbrev mixed (b : Fin 4) (p : Fin 8256) : Fin 1024 → EReal :=
  Rows.mixNorm (fun k => V0 (Proc.devRef .tc main_arg0) (ix3 b p k)) (fun k => V0 (Proc.devRef .tc main_arg1) (ix3 b p k))
    (fun k f => V0 (Proc.devRef .tc main_arg2) (ix3 1 k f)) (fun k => V0 (Proc.devRef .tc main_arg3) (ix3 1 1 k))
    (fun k => V0 (Proc.devRef .tc main_arg4) (ix3 1 1 k))

theorem mixed_apply (b : Fin 4) (p : Fin 8256) (j : Fin 1024) : res_main_v33 V0 (ix3 b p j) = mixed V0 b p j := by
  simp only [mixed, Rows.mixNorm, Rows.norm, Rows.mean]
  unfold res_main_v33 res_main_v15 res_main_v13 res_main_v5
  clean_types
  pointwise

/-- The second residual sum, which the last norm is taken of. -/
theorem pre_apply (b : Fin 4) (p : Fin 8256) (j : Fin 1024) :
    res_main_v48 V0 (ix3 b p j) = Ideal.ofBits .f32 0x3FB504F3#32 * mixed V0 b p j
      + Ideal.ofBits .f32 0x3F000000#32 * Rows.ffn (mixed V0 b p) (fun k f => V0 (Proc.devRef .tc main_arg5) (ix3 1 k f))
          (fun f k => V0 (Proc.devRef .tc main_arg6) (ix3 1 f k)) j := by
  have h := fun k => mixed_apply V0 b p k
  generalize mixed V0 b p = x at h ⊢
  simp only [Rows.ffn, Rows.hidden]
  unfold res_main_v48 res_main_v41 res_main_v40
  revert h
  generalize res_main_v33 V0 = y
  intro h
  clean_types
  pointwise [Ideal.logistic]
  simp only [h]

/-- The program's result at a row and a column: the norm of the second residual sum, of the row 64 further on. -/
theorem result_apply (b : Fin 4) (p : Fin 8192) (j : Fin 1024) (q : Fin 8256) (hq : q.val = 64 + p.val) :
    extractStridedSlice S4x8192x1024 ![0, 64, 0] (addf (mulf (mulf (subf (res_main_v48 V0) (broadcastInDim S4x8256x1024 ![0, 1, 2] bcast_S4x8256x1_S4x8256x1024_0_1_2 (res_main_v56 V0))) (broadcastInDim S4x8256x1024 ![0, 1, 2] bcast_S4x8256x1_S4x8256x1024_0_1_2 (Host.rsqrt (addf (Host.divf (broadcastInDim S4x8256x1 ![0, 1] bcast_S4x8256_S4x8256x1_0_1 (Host.reduceAdd (mulf (res_main_v58 V0) (res_main_v58 V0)) (constant S_ .f32 0x00000000#32) reducesTo_S4x8256x1024_S4x8256_d2 h_S_)) (broadcastInDim S4x8256x1 ![] bcast_S_S4x8256x1 (constant S_ .f32 0x44800000#32))) (broadcastInDim S4x8256x1 ![] bcast_S_S4x8256x1 (constant S_ .f32 0x3727C5AC#32)))))) (broadcastInDim S4x8256x1024 ![0, 1, 2] bcast_S1x1x1024_S4x8256x1024_0_1_2 (broadcastInDim S1x1x1024 ![2] bcast_S1024_S1x1x1024_2 (shapeCast _
      (extractStridedSlice S1x1x1024 ![1, 2, 0] (V0 (Proc.devRef .tc main_arg3)) slices_S2x3x1024_S1x1x1024_1_2_0) shapeCasts_S1x1x1024_S1024)))) (broadcastInDim S4x8256x1024 ![0, 1, 2] bcast_S1x1x1024_S4x8256x1024_0_1_2 (broadcastInDim S1x1x1024 ![2] bcast_S1024_S1x1x1024_2 (shapeCast _
      (extractStridedSlice S1x1x1024 ![1, 2, 0] (V0 (Proc.devRef .tc main_arg4)) slices_S2x3x1024_S1x1x1024_1_2_0) shapeCasts_S1x1x1024_S1024)))) slices_S4x8256x1024_S4x8192x1024_0_64_0
      (ix3 b p j)
    = Rows.ffnNorm (mixed V0 b q) (fun k f => V0 (Proc.devRef .tc main_arg5) (ix3 1 k f))
      (fun f k => V0 (Proc.devRef .tc main_arg6) (ix3 1 f k)) (fun k => V0 (Proc.devRef .tc main_arg3) (ix3 1 2 k))
      (fun k => V0 (Proc.devRef .tc main_arg4) (ix3 1 2 k)) j := by
  obtain rfl : q = ⟨64 + p.val, Nat.add_lt_add_left p.isLt 64⟩ := Fin.ext hq
  have h := fun k => pre_apply V0 b ⟨64 + p.val, Nat.add_lt_add_left p.isLt 64⟩ k
  simp only [Rows.ffnNorm, ← h]
  clear h
  unfold res_main_v58 res_main_v56
  generalize res_main_v48 V0 = y
  simp only [Rows.norm, Rows.mean]
  clean_types
  pointwise

end Cert.Reference2Ideal.Ffn

end
-- ==== Proof.Ffn2Claim.lean ====
/-
  The call after the mixers against its reference: the claims about the two programs.
-/
module

public import proofs.«01_k».proof.Defs
public import proofs.«01_k».proof.Proof.Ffn2Array
public import proofs.«01_k».proof.Proof.Ffn2Ref
public import Idealize.ShloMosaic.Lib.Quiescent

@[expose] public section

set_option maxRecDepth 16384

noncomputable section

namespace Cert.Proof.Ffn2

open Idealize.ShloMosaic Idealize.ShloMosaic.TcCoe Idealize.SL.Sem

/-- The reference runs and keeps its arguments. -/
theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

open Cert.Reference2Ideal Cert.Reference2Ideal.Gen Cert.Reference2Ideal.Value Idealize.ShloMosaic.StableHlo in
/-- Over the extended reals the call and the reference leave the same array. -/
theorem algebraic : Cert.algebraic_Kernel2Ideal_Reference2Ideal := by
  intro m ρ m' ρ' _ hagree
  refine ⟨fun c => Cert.Kernel2Ideal.Ffn.result m c, ?_, ?_⟩
  · exact (θ_run Cert.Kernel2Ideal.defs _ _).mono
      (fun _ h c => ⟨(h c).1.trans (Cert.Kernel2Ideal.Ffn.final m c), (h c).2⟩)
      (Cert.Kernel2Ideal.Value.run_blocks (F := Ideal) m ρ)
  refine (θ_run Cert.Reference2Ideal.defs _ _).mono (fun _ h c => ⟨(h c).1.trans ?_, (h c).2⟩)
    (Cert.Reference2Ideal.Value.run (F := Ideal) m' ρ')
  funext i
  obtain ⟨h0, h1, h2, h3, h4, h5, h6⟩ := hagree c
  have hi : i = ix3 (i 0) (i 1) (i 2) := by funext a; fin_cases a <;> rfl
  rw [hi]
  refine (Cert.Reference2Ideal.Ffn.result_apply (launchContents m' c) (i 0) (i 1) (i 2)
    ⟨64 + (i 1).val, Nat.add_lt_add_left (i 1).isLt 64⟩ rfl).trans ?_
  have e0 : launchContents m' c (Proc.devRef .tc main_arg0) = _ := h0
  have e1 : launchContents m' c (Proc.devRef .tc main_arg1) = _ := h1
  have e2 : launchContents m' c (Proc.devRef .tc main_arg2) = _ := h2
  have e3 : launchContents m' c (Proc.devRef .tc main_arg3) = _ := h3
  have e4 : launchContents m' c (Proc.devRef .tc main_arg4) = _ := h4
  have e5 : launchContents m' c (Proc.devRef .tc main_arg5) = _ := h5
  have e6 : launchContents m' c (Proc.devRef .tc main_arg6) = _ := h6
  unfold Cert.Reference2Ideal.Ffn.mixed
  rw [e0, e1, e2, e3, e4, e5, e6]
  rfl

end Cert.Proof.Ffn2

end
-- ==== Proof.ProjRow.lean ====
/-
  The projection's row mathematics: the rows in the order of storage, the inert ones zeroed, times a weight column; and
  what the 32-bit words of the programs' row tests decide.
-/
module

public import Idealize.ShloMosaic.Lib.Pointwise
public import Idealize.ShloMosaic.Lib.WordArith

@[expose] public section

noncomputable section

namespace Cert.ProjRow

open Idealize.ShloMosaic

/-- The word of a row's number in its tile is the word of its number in the array. -/
theorem word (a r : ℕ) (ha : a < 8) (hr : r < 1032) :
    IntOp.addi (Scalar.muli (BitVec.ofNat 32 a) 1032#32) (BitVec.ofNat 32 r) = BitVec.ofNat 32 (a * 1032 + r) := by
  apply BitVec.eq_of_toNat_eq
  simp only [IntOp.addi, Scalar.muli, IntOp.muli, BitVec.toNat_add, BitVec.toNat_mul, BitVec.toNat_ofNat]
  omega

/-- Small words compare as their numbers do. -/
theorem sge (n p : ℕ) (hn : n < 2 ^ 31) (hp : p < 2 ^ 31) :
    IntOp.cmpi .sge (BitVec.ofNat 32 p) (BitVec.ofNat 32 n) = BitVec.ofBool (decide (n ≤ p)) := by
  simp only [IntOp.cmpi, BitVec.sle_eq_decide, WordArith.toInt_ofNat_small _ hn, WordArith.toInt_ofNat_small _ hp, Nat.cast_le]

theorem slt (n p : ℕ) (hn : n < 2 ^ 31) (hp : p < 2 ^ 31) :
    IntOp.cmpi .slt (BitVec.ofNat 32 p) (BitVec.ofNat 32 n) = BitVec.ofBool (decide (p < n)) := by
  simp only [IntOp.cmpi, BitVec.slt_eq_decide, WordArith.toInt_ofNat_small _ hn, WordArith.toInt_ofNat_small _ hp, Nat.cast_lt]

/-- The rows in the order of storage: the sequence's 8192 first, then the chunk of 64 that ends in the meta tokens. -/
def stored (x : Fin 8256 → Fin 1024 → EReal) (p : Fin 8256) (k : Fin 1024) : EReal :=
  if hp : p.val < 8192 then x ⟨64 + p.val, by omega⟩ k else x ⟨p.val - 8192, by omega⟩ k

/-- A row times a weight column, where the 48 rows before the meta tokens count as zero. -/
def project (x : Fin 8256 → Fin 1024 → EReal) (w : Fin 1024 → EReal) (p : Fin 8256) : EReal :=
  ∑ k, (if 8192 ≤ p.val ∧ p.val < 8240 then 0 else stored x p k) * w k

end Cert.ProjRow

end
-- ==== Proof.ProjBlock.lean ====
/-
  The projection call, one block: each of the three results' blocks is the block's rows, the inert ones zeroed, times its
  weight.
-/
module

public import proofs.«01_k».proof.Proof.Gen.Kernel4Ideal.Frame
public import proofs.«01_k».proof.Proof.ProjRow
public import Idealize.ShloMosaic.Lib.Pointwise
public import Idealize.ShloMosaic.Lib.Pipeline.ValueKit

@[expose] public section

set_option maxRecDepth 16384

noncomputable section

namespace Cert.Kernel4Ideal.Proj

open Cert.Kernel4Ideal Cert.Kernel4Ideal.Gen Idealize.ShloMosaic

variable (i : grid0.Coords) (x0 : Vec Ideal S1x1032x1024 .f32) (x1 : Vec Ideal S1024x2176 .bf16)
  (x2 : Vec Ideal S1024x896 .bf16) (x3 : Vec Ideal S1024x768 .bf16)

/-- A row of the block as the products take it: zero where its number in the array is one of the 48 inert ones. -/
theorem masked_apply (r : Fin 1032) (k : Fin 1024) :
    k0_pay2 i x0 (ix2 r k) = if 8192 ≤ (i 1).val * 1032 + r.val ∧ (i 1).val * 1032 + r.val < 8240 then 0 else x0 (ix3 0 r k) := by
  have hi : (i 1).val < 8 := (i 1).isLt
  have hr := r.isLt
  pointwise [k0_pay2]
  rw [ProjRow.word _ _ hi hr, show (8192#32 : BitVec 32) = BitVec.ofNat 32 8192 from rfl,
    show (8240#32 : BitVec 32) = BitVec.ofNat 32 8240 from rfl, ProjRow.sge _ _ (by norm_num) (by omega),
    ProjRow.slt _ _ (by norm_num) (by omega), WordArith.andi_ofBool]
  pointwise
  simp only [Bool.and_eq_true, decide_eq_true_eq]

theorem out4_apply (r : Fin 1032) (j : Fin 2176) :
    out0_4 i x0 x1 x2 x3 (ix3 0 r j) = ∑ k, k0_pay2 i x0 (ix2 r k) * x1 (ix2 k j) := by
  unfold out0_4
  frame_out
  pointwise [k0_pay3]

theorem out5_apply (r : Fin 1032) (j : Fin 896) :
    out0_5 i x0 x1 x2 x3 (ix3 0 r j) = ∑ k, k0_pay2 i x0 (ix2 r k) * x2 (ix2 k j) := by
  unfold out0_5
  frame_out
  pointwise [k0_pay4]

theorem out6_apply (r : Fin 1032) (j : Fin 768) :
    out0_6 i x0 x1 x2 x3 (ix3 0 r j) = ∑ k, k0_pay2 i x0 (ix2 r k) * x3 (ix2 k j) := by
  unfold out0_6
  frame_out
  pointwise [k0_pay1, k0_pay5]

end Cert.Kernel4Ideal.Proj

end
-- ==== Proof.ProjArray.lean ====
/-
  The projection call's three result arrays, row by row.
-/
module

public import proofs.«01_k».proof.Proof.Gen.Kernel4Ideal.Value
public import proofs.«01_k».proof.Proof.ProjBlock

@[expose] public section

set_option maxRecDepth 16384

noncomputable section

namespace Cert.Kernel4Ideal.Proj

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The normalised stream's rows of a batch, and the weight, as the arguments hold them. -/
abbrev stream (b : Fin 4) : Fin 8256 → Fin 1024 → EReal := fun q k => m ((c : Thread nD τ).loc main_arg0) (ix3 b q k)
abbrev weight (j : Fin 3720) : Fin 1024 → EReal := fun k => m ((c : Thread nD τ).loc main_arg1) (ix2 k j)

/-- The first result: its 2056 columns of the projection, and zeros after them. -/
abbrev resultA : FVec Ideal S4x8256x2176 .f32 := fun i =>
  if hj : (i 2).val < 2056 then ProjRow.project (stream m c (i 0)) (weight m c ⟨(i 2).val, by omega⟩) (i 1) else 0
/-- The second result: 896 columns. -/
abbrev resultB : FVec Ideal S4x8256x896 .f32 := fun i =>
  ProjRow.project (stream m c (i 0)) (weight m c ⟨2056 + (i 2).val, by have h : (i 2).val < 896 := (i 2).isLt; omega⟩) (i 1)
/-- The third result: 768 columns. -/
abbrev resultC : FVec Ideal S4x8256x768 .f32 := fun i =>
  ProjRow.project (stream m c (i 0)) (weight m c ⟨2952 + (i 2).val, by have h : (i 2).val < 768 := (i 2).isLt; omega⟩) (i 1)

/-- The block indices of the windows at a point. -/
theorem index0 : ∀ t, win0_0.index t = ![(grid0.coords t 0).val, (grid0.coords t 1).val, 0] := by decide +kernel
theorem index1 : ∀ t, win0_1.index t = ![0, 0] := by decide +kernel
theorem index2 : ∀ t, win0_2.index t = ![0, 0] := by decide +kernel
theorem index3 : ∀ t, win0_3.index t = ![0, 0] := by decide +kernel
theorem index4 : ∀ t, win0_4.index t = ![(grid0.coords t 0).val, (grid0.coords t 1).val, 0] := by decide +kernel
theorem index5 : ∀ t, win0_5.index t = ![(grid0.coords t 0).val, (grid0.coords t 1).val, 0] := by decide +kernel
theorem index6 : ∀ t, win0_6.index t = ![(grid0.coords t 0).val, (grid0.coords t 1).val, 0] := by decide +kernel

/-- A point's place in the array: its batch and its first row. -/
theorem place (t : Fin cfg0.N) (r : Fin 1032) : (grid0.coords t 1).val * 1032 + r.val < 8256 := by
  have h : (grid0.coords t 1).val < 8 := (grid0.coords t 1).isLt
  omega

/-- Reading the stored rows through the first window's block. -/
theorem read0 (t : Fin cfg0.N) (r : Fin 1032) (k : Fin 1024) :
    iblk m c 0 t (ix3 0 r k)
      = ProjRow.stored (stream m c (grid0.coords t 0)) ⟨(grid0.coords t 1).val * 1032 + r.val, place t r⟩ k := by
  unfold ProjRow.stored
  blk_simp [iblk, V, index0 t]
  entry_read
  pointwise
  have e : (((View.whole main_v7).slice (win0_0.rect t)).emb (ix3 0 r k) 1).val = (grid0.coords t 1).val * 1032 + r.val := by
    blk_simp [index0 t]
  by_cases h : (grid0.coords t 1).val * 1032 + r.val < 8192
  · refine (dif_pos (e.trans_lt h)).trans ((?_ : _ = _).trans (dif_pos h).symm)
    blk_ext [index0 t]
  · refine (dif_neg (fun h' => h (e ▸ h'))).trans ((?_ : _ = _).trans (dif_neg h).symm)
    blk_ext [index0 t]

theorem read1 (t : Fin cfg0.N) (k : Fin 1024) (j : Fin 2176) :
    iblk m c 1 t (ix2 k j) = if hj : j.val < 2056 then weight m c ⟨j.val, by omega⟩ k else 0 := by
  blk_simp [iblk, V, index1 t]
  entry_read
  pointwise
  have e : (((View.whole main_v8).slice (win0_1.rect t)).emb (ix2 k j) 1).val = j.val := by
    blk_simp [index1 t]
  by_cases h : j.val < 2056
  · refine (dif_pos (e.trans_lt h)).trans ((?_ : _ = _).trans (dif_pos h).symm)
    blk_ext [index1 t]
  · rw [dif_neg h]
    exact dif_neg (fun h' => h (e ▸ h'))

theorem read2 (t : Fin cfg0.N) (k : Fin 1024) (j : Fin 896) :
    iblk m c 2 t (ix2 k j) = weight m c ⟨2056 + j.val, by omega⟩ k := by
  blk_ext! [iblk, V, index2 t]

theorem read3 (t : Fin cfg0.N) (k : Fin 1024) (j : Fin 768) :
    iblk m c 3 t (ix2 k j) = weight m c ⟨2952 + j.val, by omega⟩ k := by
  blk_ext! [iblk, V, index3 t]

/-- The coordinates of a block's element. -/
theorem coord4 (t : Fin cfg0.N) (r : Fin 1032) (j : Fin 2176) :
    ((cfg0.win 4).blk t).view.emb (ix3 0 r j)
      = ix3 (grid0.coords t 0) ⟨(grid0.coords t 1).val * 1032 + r.val, place t r⟩ j := by
  blk_ext [index4 t]

theorem coord5 (t : Fin cfg0.N) (r : Fin 1032) (j : Fin 896) :
    ((cfg0.win 5).blk t).view.emb (ix3 0 r j)
      = ix3 (grid0.coords t 0) ⟨(grid0.coords t 1).val * 1032 + r.val, place t r⟩ j := by
  blk_ext [index5 t]

theorem coord6 (t : Fin cfg0.N) (r : Fin 1032) (j : Fin 768) :
    ((cfg0.win 6).blk t).view.emb (ix3 0 r j)
      = ix3 (grid0.coords t 0) ⟨(grid0.coords t 1).val * 1032 + r.val, place t r⟩ j := by
  blk_ext [index6 t]

theorem block4 (t : Fin cfg0.N) (r : Fin 1032) (j : Fin 2176) :
    out0_4 (grid0.coords t) (iblk m c 0 t) (iblk m c 1 t) (iblk m c 2 t) (iblk m c 3 t) (ix3 0 r j)
      = resultA m c (((cfg0.win 4).blk t).view.emb (ix3 0 r j)) := by
  rw [coord4, out4_apply]
  simp only [masked_apply, read0, read1]
  show _ = if hj : j.val < 2056 then ProjRow.project (stream m c (grid0.coords t 0)) (weight m c ⟨j.val, _⟩)
    ⟨(grid0.coords t 1).val * 1032 + r.val, place t r⟩ else 0
  by_cases hj : j.val < 2056
  · simp only [dif_pos hj]
    rfl
  · simp only [dif_neg hj, mul_zero, Finset.sum_const_zero]

theorem block5 (t : Fin cfg0.N) (r : Fin 1032) (j : Fin 896) :
    out0_5 (grid0.coords t) (iblk m c 0 t) (iblk m c 1 t) (iblk m c 2 t) (iblk m c 3 t) (ix3 0 r j)
      = resultB m c (((cfg0.win 5).blk t).view.emb (ix3 0 r j)) := by
  rw [coord5, out5_apply]
  simp only [masked_apply, read0, read2]
  rfl

theorem block6 (t : Fin cfg0.N) (r : Fin 1032) (j : Fin 768) :
    out0_6 (grid0.coords t) (iblk m c 0 t) (iblk m c 1 t) (iblk m c 2 t) (iblk m c 3 t) (ix3 0 r j)
      = resultC m c (((cfg0.win 6).blk t).view.emb (ix3 0 r j)) := by
  rw [coord6, out6_apply]
  simp only [masked_apply, read0, read3]
  rfl

/-- The arrays the call leaves. -/
theorem final4 : (dats m 0 c).arrAt 4 cfg0.N = resultA m c := by
  refine (dats m 0 c).arrAt_eq_of_covers 4 _ (by decide +kernel) fun t hf y => ?_
  idx_vars y
  obtain rfl : y0 = 0 := Subsingleton.elim _ _
  blk_simp
  rw [after0_4]
  exact block4 m c t y1 y2

theorem final5 : (dats m 0 c).arrAt 5 cfg0.N = resultB m c := by
  refine (dats m 0 c).arrAt_eq_of_covers 5 _ (by decide +kernel) fun t hf y => ?_
  idx_vars y
  obtain rfl : y0 = 0 := Subsingleton.elim _ _
  blk_simp
  rw [after0_5]
  exact block5 m c t y1 y2

theorem final6 : (dats m 0 c).arrAt 6 cfg0.N = resultC m c := by
  refine (dats m 0 c).arrAt_eq_of_covers 6 _ (by decide +kernel) fun t hf y => ?_
  idx_vars y
  obtain rfl : y0 = 0 := Subsingleton.elim _ _
  blk_simp
  rw [after0_6]
  exact block6 m c t y1 y2

end Cert.Kernel4Ideal.Proj

end
-- ==== Proof.ProjRef.lean ====
/-
  The projection reference's three results, read at a row and a column.
-/
module

public import proofs.«01_k».proof.Proof.Gen.Reference4Ideal.Run
public import proofs.«01_k».proof.Proof.ProjRow
public import Idealize.ShloMosaic.Lib.Tactic.CleanTypes

@[expose] public section

set_option maxRecDepth 16384

noncomputable section

namespace Cert.Reference4Ideal.Proj

open Cert.Reference4Ideal Cert.Reference4Ideal.Gen Idealize.ShloMosaic Idealize.ShloMosaic.TcCoe Idealize.SL.Sem

variable (h : FVec Ideal S4x8256x1024 .f32) (w : FVec Ideal S1024x3720 .f32)

/-- The reference's factor of a row: zero for the first 48, one for the others. -/
theorem factor (p : ℕ) (hp : p < 8256) :
    FloatOps.uitofp (F := Ideal) FTy.f32 (IntOp.cmpi CmpIPredicate.sge (BitVec.ofNat 32 p) 48#32) = (if 48 ≤ p then 1 else 0 : EReal) := by
  rw [show (48#32 : BitVec 32) = BitVec.ofNat 32 48 from rfl, ProjRow.sge 48 p (by norm_num) (by omega)]
  by_cases h : 48 ≤ p
  · simp [h, FloatOps.uitofp]
  · simp [h, FloatOps.uitofp]

/-- One sum of the reference is the projection's, in both halves of the rows. -/
theorem sum_eq (b : Fin 4) (p : Fin 8256) (j : Fin 3720) :
    (if hp : p.val < 8192 then
      ∑ x, h (ix3 b ⟨64 + p.val, by omega⟩ x)
          * FloatOps.uitofp FTy.f32 (IntOp.cmpi CmpIPredicate.sge (BitVec.ofNat 32 (64 + p.val)) 48#32) * w (ix2 x j)
    else
      ∑ x, h (ix3 b ⟨p.val - 8192, by omega⟩ x)
          * FloatOps.uitofp FTy.f32 (IntOp.cmpi CmpIPredicate.sge (BitVec.ofNat 32 (p.val - 8192)) 48#32) * w (ix2 x j))
    = ProjRow.project (fun q k => h (ix3 b q k)) (fun k => w (ix2 k j)) p := by
  unfold ProjRow.project ProjRow.stored
  by_cases h1 : p.val < 8192
  · simp only [dif_pos h1]
    rw [factor _ (by omega), if_pos (by omega)]
    refine Finset.sum_congr rfl fun k _ => ?_
    rw [if_neg (by omega), mul_one]
  · simp only [dif_neg h1]
    rw [factor _ (by omega)]
    refine Finset.sum_congr rfl fun k _ => ?_
    by_cases h2 : 48 ≤ p.val - 8192
    · rw [if_pos h2, if_neg (by omega), mul_one]
    · rw [if_neg h2, if_pos (by omega), mul_zero]

theorem resultA (b : Fin 4) (p : Fin 8256) (j : Fin 2176) :
    (concatenate S4x8256x2176 1 [⟨S4x8192x2176, (extractStridedSlice S4x8192x2176 ![0, 64, 0] (concatenate S4x8256x2176 2 [⟨S4x8256x2056, (extractStridedSlice S4x8256x2056 ![0, 0, 0]
        (Host.dotGeneral dot_S4x8256x1024_S1024x3720_S4x8256x3720_2_0_01_1_n_n none (mulf h (broadcastInDim S4x8256x1024 ![0, 1, 2] bcast_S1x8256x1_S4x8256x1024_0_1_2 (broadcastInDim S1x8256x1 ![1] bcast_S8256_S1x8256x1_1 (uitofp .f32 (cmpi .sge (iotaInDim S8256 32 0) (broadcastInDim S8256 ![] bcast_S_S8256 (constantI S_ 32 48#32))))))) w) slices_S4x8256x3720_S4x8256x2056_0_0_0)⟩, ⟨S4x8256x120, (broadcastInDim S4x8256x120 ![] bcast_S_S4x8256x120 (constant S_ .f32 0x00000000#32))⟩] concatenates_S4x8256x2056_S4x8256x120_S4x8256x2176_d2) slices_S4x8256x2176_S4x8192x2176_0_64_0)⟩,
      ⟨S4x64x2176, (extractStridedSlice S4x64x2176 ![0, 0, 0] (concatenate S4x8256x2176 2 [⟨S4x8256x2056, (extractStridedSlice S4x8256x2056 ![0, 0, 0]
        (Host.dotGeneral dot_S4x8256x1024_S1024x3720_S4x8256x3720_2_0_01_1_n_n none (mulf h (broadcastInDim S4x8256x1024 ![0, 1, 2] bcast_S1x8256x1_S4x8256x1024_0_1_2 (broadcastInDim S1x8256x1 ![1] bcast_S8256_S1x8256x1_1 (uitofp .f32 (cmpi .sge (iotaInDim S8256 32 0) (broadcastInDim S8256 ![] bcast_S_S8256 (constantI S_ 32 48#32))))))) w) slices_S4x8256x3720_S4x8256x2056_0_0_0)⟩, ⟨S4x8256x120, (broadcastInDim S4x8256x120 ![] bcast_S_S4x8256x120 (constant S_ .f32 0x00000000#32))⟩] concatenates_S4x8256x2056_S4x8256x120_S4x8256x2176_d2) slices_S4x8256x2176_S4x64x2176_0_0_0)⟩] concatenates_S4x8192x2176_S4x64x2176_S4x8256x2176_d1) (ix3 b p j)
    = if hj : j.val < 2056 then ProjRow.project (fun q k => h (ix3 b q k)) (fun k => w (ix2 k ⟨j.val, by omega⟩)) p else 0 := by
  simp only [← sum_eq]
  pointwise
  split_ifs <;> rfl

theorem resultB (b : Fin 4) (p : Fin 8256) (j : Fin 896) :
    (concatenate S4x8256x896 1 [⟨S4x8192x896, (extractStridedSlice S4x8192x896 ![0, 64, 0] (extractStridedSlice S4x8256x896 ![0, 0, 2056]
        (Host.dotGeneral dot_S4x8256x1024_S1024x3720_S4x8256x3720_2_0_01_1_n_n none (mulf h (broadcastInDim S4x8256x1024 ![0, 1, 2] bcast_S1x8256x1_S4x8256x1024_0_1_2 (broadcastInDim S1x8256x1 ![1] bcast_S8256_S1x8256x1_1 (uitofp .f32 (cmpi .sge (iotaInDim S8256 32 0) (broadcastInDim S8256 ![] bcast_S_S8256 (constantI S_ 32 48#32))))))) w) slices_S4x8256x3720_S4x8256x896_0_0_2056) slices_S4x8256x896_S4x8192x896_0_64_0)⟩,
      ⟨S4x64x896, (extractStridedSlice S4x64x896 ![0, 0, 0] (extractStridedSlice S4x8256x896 ![0, 0, 2056]
        (Host.dotGeneral dot_S4x8256x1024_S1024x3720_S4x8256x3720_2_0_01_1_n_n none (mulf h (broadcastInDim S4x8256x1024 ![0, 1, 2] bcast_S1x8256x1_S4x8256x1024_0_1_2 (broadcastInDim S1x8256x1 ![1] bcast_S8256_S1x8256x1_1 (uitofp .f32 (cmpi .sge (iotaInDim S8256 32 0) (broadcastInDim S8256 ![] bcast_S_S8256 (constantI S_ 32 48#32))))))) w) slices_S4x8256x3720_S4x8256x896_0_0_2056) slices_S4x8256x896_S4x64x896_0_0_0)⟩] concatenates_S4x8192x896_S4x64x896_S4x8256x896_d1) (ix3 b p j)
    = ProjRow.project (fun q k => h (ix3 b q k)) (fun k => w (ix2 k ⟨2056 + j.val, by omega⟩)) p := by
  rw [← sum_eq]
  pointwise

theorem resultC (b : Fin 4) (p : Fin 8256) (j : Fin 768) :
    (concatenate S4x8256x768 1 [⟨S4x8192x768, (extractStridedSlice S4x8192x768 ![0, 64, 0] (extractStridedSlice S4x8256x768 ![0, 0, 2952]
        (Host.dotGeneral dot_S4x8256x1024_S1024x3720_S4x8256x3720_2_0_01_1_n_n none (mulf h (broadcastInDim S4x8256x1024 ![0, 1, 2] bcast_S1x8256x1_S4x8256x1024_0_1_2 (broadcastInDim S1x8256x1 ![1] bcast_S8256_S1x8256x1_1 (uitofp .f32 (cmpi .sge (iotaInDim S8256 32 0) (broadcastInDim S8256 ![] bcast_S_S8256 (constantI S_ 32 48#32))))))) w) slices_S4x8256x3720_S4x8256x768_0_0_2952) slices_S4x8256x768_S4x8192x768_0_64_0)⟩,
      ⟨S4x64x768, (extractStridedSlice S4x64x768 ![0, 0, 0] (extractStridedSlice S4x8256x768 ![0, 0, 2952]
        (Host.dotGeneral dot_S4x8256x1024_S1024x3720_S4x8256x3720_2_0_01_1_n_n none (mulf h (broadcastInDim S4x8256x1024 ![0, 1, 2] bcast_S1x8256x1_S4x8256x1024_0_1_2 (broadcastInDim S1x8256x1 ![1] bcast_S8256_S1x8256x1_1 (uitofp .f32 (cmpi .sge (iotaInDim S8256 32 0) (broadcastInDim S8256 ![] bcast_S_S8256 (constantI S_ 32 48#32))))))) w) slices_S4x8256x3720_S4x8256x768_0_0_2952) slices_S4x8256x768_S4x64x768_0_0_0)⟩] concatenates_S4x8192x768_S4x64x768_S4x8256x768_d1) (ix3 b p j)
    = ProjRow.project (fun q k => h (ix3 b q k)) (fun k => w (ix2 k ⟨2952 + j.val, by omega⟩)) p := by
  rw [← sum_eq]
  pointwise

end Cert.Reference4Ideal.Proj

end
-- ==== Proof.ProjClaim.lean ====
/-
  The projection call against its reference: the claims about the two programs.
-/
module

public import proofs.«01_k».proof.Defs
public import proofs.«01_k».proof.Proof.ProjArray
public import proofs.«01_k».proof.Proof.ProjRef
public import Idealize.ShloMosaic.Lib.Quiescent

@[expose] public section

set_option maxRecDepth 16384

noncomputable section

namespace Cert.Proof.Proj

open Idealize.ShloMosaic Idealize.ShloMosaic.TcCoe Idealize.SL.Sem

/-- The reference runs and keeps its arguments. -/
theorem frame_reference : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

/-- Over the extended reals the call and the reference leave the same three arrays. -/
theorem algebraic : Cert.algebraic_Kernel4Ideal_Reference4Ideal := by
  intro m ρ m' ρ' _ hagree
  refine ⟨fun c => Cert.Kernel4Ideal.Proj.resultA m c, fun c => Cert.Kernel4Ideal.Proj.resultB m c,
    fun c => Cert.Kernel4Ideal.Proj.resultC m c, ?_, ?_⟩
  · exact (θ_run Cert.Kernel4Ideal.defs _ _).mono
      (fun _ h c => ⟨(h c).1.trans (Cert.Kernel4Ideal.Proj.final4 m c), (h c).2.1.trans (Cert.Kernel4Ideal.Proj.final5 m c),
        (h c).2.2.1.trans (Cert.Kernel4Ideal.Proj.final6 m c), (h c).2.2.2⟩)
      (Cert.Kernel4Ideal.Value.run_blocks (F := Ideal) m ρ)
  refine (θ_run Cert.Reference4Ideal.defs _ _).mono
    (fun _ h c => ⟨(h c).1.trans ?_, (h c).2.1.trans ?_, (h c).2.2.1.trans ?_, (h c).2.2.2⟩)
    (Cert.Reference4Ideal.Value.run (F := Ideal) m' ρ')
  all_goals
    obtain ⟨h0, h1⟩ := hagree c
    rw [h0, h1]
    funext i
    have hi : i = ix3 (i 0) (i 1) (i 2) := by funext a; fin_cases a <;> rfl
    rw [hi]
  · exact Cert.Reference4Ideal.Proj.resultA _ _ (i 0) (i 1) (i 2)
  · exact Cert.Reference4Ideal.Proj.resultB _ _ (i 0) (i 1) (i 2)
  · exact Cert.Reference4Ideal.Proj.resultC _ _ (i 0) (i 1) (i 2)

end Cert.Proof.Proj

end
-- ==== Proof.MixersRunA.lean ====
/-
  The run of the mixers' body at the first chunk, at which the carried scratch is cleared (the idealized program).
-/
module

public import proofs.«01_k».proof.Proof.Gen.KernelIdeal.Frame.Runs

@[expose] public section

set_option maxRecDepth 16384

noncomputable section

namespace Cert.Mixers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 20000000 in
/-- The mixers' body on whole staging buffers, at the first chunk, at which the carried scratch is cleared: it runs to its end, hands the inputs back as they
    were, and leaves in the output and in each carried scratch the pieces that the run finds. -/
noncomputable def kernelRun0_A (c : Dev nD) (i : grid0.Coords) (arg1 : Memref sig .tc .vmem S4x64x2176 .f32) (harg1 : arg1.IsWhole) (arg2 : Memref sig .tc .vmem S4x64x896 .f32) (harg2 : arg2.IsWhole) (arg3 : Memref sig .tc .vmem S4x64x768 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x896 .f32) (harg8 : arg8.IsWhole) (arg9 : Memref sig .tc .vmem S1x256 .f32) (harg9 : arg9.IsWhole) (arg10 : Memref sig .tc .vmem S32x256 .f32) (harg10 : arg10.IsWhole) (arg11 : Memref sig .tc .vmem S1x256 .f32) (harg11 : arg11.IsWhole) (arg12 : Memref sig .tc .vmem S32x256 .f32) (harg12 : arg12.IsWhole) (arg13 : Memref sig .tc .vmem S64x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S4x64x1024 .bf16) (harg23 : arg23.IsWhole) (arg24 : Memref sig .tc .vmem S4x72x1536 .f32) (harg24 : arg24.IsWhole) (arg25 : Memref sig .tc .vmem S16x128x128 .f32) (harg25 : arg25.IsWhole) (arg26 : Memref sig .tc .vmem S4x72x896 .f32) (harg26 : arg26.IsWhole) (arg27 : Memref sig .tc .vmem S8x128x128 .f32) (harg27 : arg27.IsWhole) (arg28 : Memref sig .tc .vmem S4x128x256 .f32) (harg28 : arg28.IsWhole) (hc0 : cond0_0 i)
    (x0 : Vec F S4x64x2176 .f32) (x1 : Vec F S4x64x896 .f32) (x2 : Vec F S4x64x768 .f32) (x3 : Vec F S4x1536 .f32) (x4 : Vec F S1x128 .f32) (x5 : Vec F S1x128 .f32) (x6 : Vec F S1x128 .f32) (x7 : Vec F S1x896 .f32) (x8 : Vec F S1x256 .f32) (x9 : Vec F S32x256 .f32) (x10 : Vec F S1x256 .f32) (x11 : Vec F S32x256 .f32) (x12 : Vec F S64x256 .f32) (x13 : Vec F S1x256 .f32) (x14 : Vec F S1x256 .f32) (x15 : Vec F S1x256 .f32) (x16 : Vec F S1x256 .f32) (x17 : Vec F S1x256 .f32) (x18 : Vec F S64x128 .f32) (x19 : Vec F S64x128 .f32) (x20 : Vec F S1x256 .f32) (x21 : Vec F S1x256 .f32) :
    Σ' (L22 : List (View.Piece (Elt F) S4x64x1024 .bf16)), Σ' (LS0 : List (View.Piece (Elt F) S4x72x1536 .f32)), Σ' (LS1 : List (View.Piece (Elt F) S16x128x128 .f32)), Σ' (LS2 : List (View.Piece (Elt F) S4x72x896 .f32)), Σ' (LS3 : List (View.Piece (Elt F) S8x128x128 .f32)), { LS4 : List (View.Piece (Elt F) S4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4)) -∗ K ⟨⟩))
          ⊢ wp frame (wpE (defs₀ (F := F)) Variants.none c none) E (cc0_mixers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, fun E K => ?run⟩
  case run =>
    simp only [cc0_mixers_eq_skeleton]; unfold cc0_mixers_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [HS0]; · iexists _; iexact HS0
    isplitl [HS1]; · iexists _; iexact HS1
    isplitl [HS2]; · iexists _; iexact HS2
    isplitl [HS3]; · iexists _; iexact HS3
    iexists _; iexact HS4

end Cert.Mixers

end
-- ==== Proof.MixersOuts.lean ====
/-
  What one chunk of the mixers leaves in the output block and in the carried scratch (the idealized program).
-/
module

public import proofs.«01_k».proof.Proof.MixersRunB
public import Idealize.ShloMosaic.Lib.Claim

@[expose] public section

set_option maxRecDepth 16384

noncomputable section

namespace Cert.Mixers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section CaseA
variable (c : Dev nD) (i : grid0.Coords) (arg1 : Memref sig .tc .vmem S4x64x2176 .f32) (harg1 : arg1.IsWhole) (arg2 : Memref sig .tc .vmem S4x64x896 .f32) (harg2 : arg2.IsWhole) (arg3 : Memref sig .tc .vmem S4x64x768 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x896 .f32) (harg8 : arg8.IsWhole) (arg9 : Memref sig .tc .vmem S1x256 .f32) (harg9 : arg9.IsWhole) (arg10 : Memref sig .tc .vmem S32x256 .f32) (harg10 : arg10.IsWhole) (arg11 : Memref sig .tc .vmem S1x256 .f32) (harg11 : arg11.IsWhole) (arg12 : Memref sig .tc .vmem S32x256 .f32) (harg12 : arg12.IsWhole) (arg13 : Memref sig .tc .vmem S64x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S4x64x1024 .bf16) (harg23 : arg23.IsWhole) (arg24 : Memref sig .tc .vmem S4x72x1536 .f32) (harg24 : arg24.IsWhole) (arg25 : Memref sig .tc .vmem S16x128x128 .f32) (harg25 : arg25.IsWhole) (arg26 : Memref sig .tc .vmem S4x72x896 .f32) (harg26 : arg26.IsWhole) (arg27 : Memref sig .tc .vmem S8x128x128 .f32) (harg27 : arg27.IsWhole) (arg28 : Memref sig .tc .vmem S4x128x256 .f32) (harg28 : arg28.IsWhole) (hc0 : cond0_0 i)
  (x0 : Vec F S4x64x2176 .f32) (x1 : Vec F S4x64x896 .f32) (x2 : Vec F S4x64x768 .f32) (x3 : Vec F S4x1536 .f32) (x4 : Vec F S1x128 .f32) (x5 : Vec F S1x128 .f32) (x6 : Vec F S1x128 .f32) (x7 : Vec F S1x896 .f32) (x8 : Vec F S1x256 .f32) (x9 : Vec F S32x256 .f32) (x10 : Vec F S1x256 .f32) (x11 : Vec F S32x256 .f32) (x12 : Vec F S64x256 .f32) (x13 : Vec F S1x256 .f32) (x14 : Vec F S1x256 .f32) (x15 : Vec F S1x256 .f32) (x16 : Vec F S1x256 .f32) (x17 : Vec F S1x256 .f32) (x18 : Vec F S64x128 .f32) (x19 : Vec F S64x128 .f32) (x20 : Vec F S1x256 .f32) (x21 : Vec F S1x256 .f32)

/-- The pieces stored at the first chunk cover the output block. -/
theorem cover0_A_22 (y : S4x64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).1 ![4, 64, 256] (by sl_kernel_rfl) y

/-- What is left, at the first chunk, in the output block. -/
def out0_A_22 : Vec F S4x64x1024 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).1)

/-- The pieces stored at the first chunk cover scratch 24. -/
theorem scover0_A_0 (y : S4x72x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.1 ![4, 8, 1536] (by sl_kernel_rfl) y

/-- What is left, at the first chunk, in scratch 24. -/
def sout0_A_0 : Vec F S4x72x1536 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.1)

/-- The pieces stored at the first chunk cover scratch 25. -/
theorem scover0_A_1 (y : S16x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.1 S16x128x128.size (by sl_kernel_rfl) y

/-- What is left, at the first chunk, in scratch 25. -/
def sout0_A_1 : Vec F S16x128x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.1)

/-- The pieces stored at the first chunk cover scratch 26. -/
theorem scover0_A_2 (y : S4x72x896.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.1 ![4, 8, 896] (by sl_kernel_rfl) y

/-- What is left, at the first chunk, in scratch 26. -/
def sout0_A_2 : Vec F S4x72x896 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.1)

/-- The pieces stored at the first chunk cover scratch 27. -/
theorem scover0_A_3 (y : S8x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.2.1 S8x128x128.size (by sl_kernel_rfl) y

/-- What is left, at the first chunk, in scratch 27. -/
def sout0_A_3 : Vec F S8x128x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.2.1)

/-- The pieces stored at the first chunk cover scratch 28. -/
theorem scover0_A_4 (y : S4x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.2.2.1 S4x128x256.size (by sl_kernel_rfl) y

/-- What is left, at the first chunk, in scratch 28. -/
def sout0_A_4 : Vec F S4x128x256 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.2.2.1)

end CaseA

section CaseB
variable (c : Dev nD) (i : grid0.Coords) (arg1 : Memref sig .tc .vmem S4x64x2176 .f32) (harg1 : arg1.IsWhole) (arg2 : Memref sig .tc .vmem S4x64x896 .f32) (harg2 : arg2.IsWhole) (arg3 : Memref sig .tc .vmem S4x64x768 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x896 .f32) (harg8 : arg8.IsWhole) (arg9 : Memref sig .tc .vmem S1x256 .f32) (harg9 : arg9.IsWhole) (arg10 : Memref sig .tc .vmem S32x256 .f32) (harg10 : arg10.IsWhole) (arg11 : Memref sig .tc .vmem S1x256 .f32) (harg11 : arg11.IsWhole) (arg12 : Memref sig .tc .vmem S32x256 .f32) (harg12 : arg12.IsWhole) (arg13 : Memref sig .tc .vmem S64x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S4x64x1024 .bf16) (harg23 : arg23.IsWhole) (arg24 : Memref sig .tc .vmem S4x72x1536 .f32) (harg24 : arg24.IsWhole) (arg25 : Memref sig .tc .vmem S16x128x128 .f32) (harg25 : arg25.IsWhole) (arg26 : Memref sig .tc .vmem S4x72x896 .f32) (harg26 : arg26.IsWhole) (arg27 : Memref sig .tc .vmem S8x128x128 .f32) (harg27 : arg27.IsWhole) (arg28 : Memref sig .tc .vmem S4x128x256 .f32) (harg28 : arg28.IsWhole) (hc0 : ¬cond0_0 i)
  (x0 : Vec F S4x64x2176 .f32) (x1 : Vec F S4x64x896 .f32) (x2 : Vec F S4x64x768 .f32) (x3 : Vec F S4x1536 .f32) (x4 : Vec F S1x128 .f32) (x5 : Vec F S1x128 .f32) (x6 : Vec F S1x128 .f32) (x7 : Vec F S1x896 .f32) (x8 : Vec F S1x256 .f32) (x9 : Vec F S32x256 .f32) (x10 : Vec F S1x256 .f32) (x11 : Vec F S32x256 .f32) (x12 : Vec F S64x256 .f32) (x13 : Vec F S1x256 .f32) (x14 : Vec F S1x256 .f32) (x15 : Vec F S1x256 .f32) (x16 : Vec F S1x256 .f32) (x17 : Vec F S1x256 .f32) (x18 : Vec F S64x128 .f32) (x19 : Vec F S64x128 .f32) (x20 : Vec F S1x256 .f32) (x21 : Vec F S1x256 .f32) (xs0 : Vec F S4x72x1536 .f32) (xs1 : Vec F S16x128x128 .f32) (xs2 : Vec F S4x72x896 .f32) (xs3 : Vec F S8x128x128 .f32) (xs4 : Vec F S4x128x256 .f32)

/-- The pieces stored at a later chunk cover the output block. -/
theorem cover0_B_22 (y : S4x64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).1 ![4, 64, 256] (by sl_kernel_rfl) y

/-- What is left, at a later chunk, in the output block. -/
def out0_B_22 : Vec F S4x64x1024 .bf16 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).1)

/-- The pieces stored at a later chunk cover scratch 24. -/
theorem scover0_B_0 (y : S4x72x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.1 ![4, 8, 1536] (by sl_kernel_rfl) y

/-- What is left, at a later chunk, in scratch 24. -/
def sout0_B_0 : Vec F S4x72x1536 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.1)

/-- The pieces stored at a later chunk cover scratch 25. -/
theorem scover0_B_1 (y : S16x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.1 S16x128x128.size (by sl_kernel_rfl) y

/-- What is left, at a later chunk, in scratch 25. -/
def sout0_B_1 : Vec F S16x128x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.1)

/-- The pieces stored at a later chunk cover scratch 26. -/
theorem scover0_B_2 (y : S4x72x896.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.1 ![4, 8, 896] (by sl_kernel_rfl) y

/-- What is left, at a later chunk, in scratch 26. -/
def sout0_B_2 : Vec F S4x72x896 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.1)

/-- The pieces stored at a later chunk cover scratch 27. -/
theorem scover0_B_3 (y : S8x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.2.1 S8x128x128.size (by sl_kernel_rfl) y

/-- What is left, at a later chunk, in scratch 27. -/
def sout0_B_3 : Vec F S8x128x128 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.2.1)

/-- The pieces stored at a later chunk cover scratch 28. -/
theorem scover0_B_4 (y : S4x128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.2.2.1 S4x128x256.size (by sl_kernel_rfl) y

/-- What is left, at a later chunk, in scratch 28. -/
def sout0_B_4 : Vec F S4x128x256 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.2.2.1)

end CaseB

end Cert.Mixers

end
-- ==== Proof.MixersFrame.lean ====
/-
  The frame of the mixers call: what its buffers hold chunk by chunk, its run, and that it ends with its arguments as they were (the idealized program).
-/
module

public import proofs.«01_k».proof.Proof.MixersOuts

@[expose] public section

set_option maxHeartbeats 8000000
set_option maxRecDepth 16384

noncomputable section

namespace Cert.Mixers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the first chunk leaves, at its input blocks: the output block (where it is named) and the carried scratch. -/
def pointA (c : Dev nD) (t : Fin cfg0.N) (h0 : t.val % 129 = 0) : Vec F S4x64x1024 .bf16 × Vec F S4x72x1536 .f32 × Vec F S16x128x128 .f32 × Vec F S4x72x896 .f32 × Vec F S8x128x128 .f32 × Vec F S4x128x256 .f32 :=
  (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t))

/-- What a later chunk leaves, at its input blocks and over the scratch `xs` that the chunk before it left. -/
def pointB (c : Dev nD) (t : Fin cfg0.N) (h0 : ¬t.val % 129 = 0) (xs : Vec F S4x72x1536 .f32 × Vec F S16x128x128 .f32 × Vec F S4x72x896 .f32 × Vec F S8x128x128 .f32 × Vec F S4x128x256 .f32) : Vec F S4x64x1024 .bf16 × Vec F S4x72x1536 .f32 × Vec F S16x128x128 .f32 × Vec F S4x72x896 .f32 × Vec F S8x128x128 .f32 × Vec F S4x128x256 .f32 :=
  (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) xs.1 xs.2.1 xs.2.2.1 xs.2.2.2.1 xs.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) xs.1 xs.2.1 xs.2.2.1 xs.2.2.2.1 xs.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) xs.1 xs.2.1 xs.2.2.1 xs.2.2.2.1 xs.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) xs.1 xs.2.1 xs.2.2.1 xs.2.2.2.1 xs.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) xs.1 xs.2.1 xs.2.2.1 xs.2.2.2.1 xs.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) xs.1 xs.2.1 xs.2.2.1 xs.2.2.2.1 xs.2.2.2.2)

/-- What the output block and the carried scratch hold after the chunk at position `n`. -/
def outsAt0 (c : Dev nD) : (n : ℕ) → n < cfg0.N → Vec F S4x64x1024 .bf16 × Vec F S4x72x1536 .f32 × Vec F S16x128x128 .f32 × Vec F S4x72x896 .f32 × Vec F S8x128x128 .f32 × Vec F S4x128x256 .f32
  | 0, hn => pointA m c ⟨0, hn⟩ (Nat.zero_mod _)
  | n + 1, hn =>
    if h0 : (n + 1) % 129 = 0 then
      pointA m c ⟨n + 1, hn⟩ h0
    else
      pointB m c ⟨n + 1, hn⟩ h0 (outsAt0 c n (Nat.lt_of_succ_lt hn)).2

/-- At the first chunk they hold what the first chunk leaves. -/
theorem outsAt0_A (c : Dev nD) (t : Fin cfg0.N) (h0 : t.val % 129 = 0) :
    outsAt0 m c t.val t.isLt = pointA m c t h0 := by
  obtain ⟨n, hn⟩ := t
  cases n with
  | zero => exact rfl
  | succ n => exact (dif_pos h0).trans rfl

/-- At a later chunk they hold what that chunk leaves over the scratch of the chunk before. -/
theorem outsAt0_B (c : Dev nD) (t : Fin cfg0.N) (h0 : ¬t.val % 129 = 0) :
    outsAt0 m c t.val t.isLt = pointB m c t h0 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-- What holds of the scratch before position `n`: nothing is known at the start, afterwards each carried scratch is what the chunk before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After a chunk the carried scratch is what that chunk left. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r)) := rfl

/-- Before a later chunk the carried scratch is what the chunk before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ owns (c : Thread nD τ) scM0_4 fullShare ((outsAt0 m c (n - 1) (by omega)).2.2.2.2.2)) ∗ (∃ r, prngReg c r)) := by
  cases n with
  | zero => exact absurd rfl hz
  | succ n => rfl

/-! ## The pipeline's proof data -/

/-- The proof data of the one pipeline: its arrays as the call finds them, its blocks after each chunk, its scratch between chunks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t.val t.isLt).1
    | ⟨_ + 23, h⟩ => absurd h (Nat.not_lt.2 (Nat.le_add_left _ _))
  Φ t := PhiS m c t.val (Nat.le_of_lt_succ t.isLt)
  q _ := fullShare
  owed _ := 0

/-- The arrays are the contents at the entry. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What each window holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body at a point is entered with, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- What the body at a point leaves, window by window. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 80000000 in
/-- From its blocks and the scratch of the chunk before, the body runs to its end and leaves what is named for its chunk: by the run for the first chunk or the one for a later chunk. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.succ = PhiS m c (t.val + 1) t.isLt from rfl, PhiS_succ]
  have hN : t.val < 129 := lt_of_lt_of_eq t.isLt (show cfg0.N = 129 from N_0)
  by_cases h0 : t.val % 129 = 0
  · by_cases hz : t.val = 0
    · rw [PhiS_castSucc m c t, PhiS_zero m c _ _ hz, PhiA0_eq]
      rw [outsAt0_A m c t h0]
      unfold pointA out0_A_22 sout0_A_0 sout0_A_1 sout0_A_2 sout0_A_3 sout0_A_4; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexists _; iexact H22
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, H18, H19, H20, H21, ⟨%e22, H22⟩, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      unfold owns; iexists _; isplitr
      swap; · iexact H22
      ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 129 := lt_of_lt_of_eq t.isLt (show cfg0.N = 129 from N_0); omega
  · by_cases hz : t.val = 0
    · exfalso; have hN : t.val < 129 := lt_of_lt_of_eq t.isLt (show cfg0.N = 129 from N_0); omega
    · rw [PhiS_castSucc m c t, PhiS_pos m c _ _ hz]
      rw [outsAt0_B m c t h0]
      unfold pointB out0_B_22 sout0_B_0 sout0_B_1 sout0_B_2 sout0_B_3 sout0_B_4; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexists _; iexact H22
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, H18, H19, H20, H21, ⟨%e22, H22⟩, ⟨%es0, HS0⟩, ⟨%es1, HS1⟩, ⟨%es2, HS2⟩, ⟨%es3, HS3⟩, ⟨%es4, HS4⟩⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS4
          ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      unfold owns; iexists _; isplitr
      swap; · iexact H22
      ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body does at every point what the proof data says. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The start gives what is asked before the first chunk. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any chunk the contents of the carried scratch may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- What is known after the last chunk gives the end. -/
theorem hout (c : Dev nD) : (dats m 0 c).Φ (Fin.last cfg0.N) ⊢ Pipeline.ΦA spec0 c :=
  Phi_out m c _ (by rw [Fin.val_last]; have : cfg0.N = 129 := N_0; omega)

/-! ## The run and the frame -/

set_option backward.isDefEq.respectTransparency.types false in
/-- The call runs from any memory, leaves what the proof data says, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The call runs from any memory and leaves what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they started. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- The call runs, its arguments end as they started, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.Mixers

end
-- ==== Proof.MixersBitsRunA.lean ====
/-
  The run of the mixers' body at the first chunk, at which the carried scratch is cleared.
-/
module

public import proofs.«01_k».proof.Proof.Gen.Kernel.Frame.Runs

@[expose] public section

set_option maxRecDepth 16384

noncomputable section

namespace Cert.MixersBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- The mixers' body on whole staging buffers, at the first chunk, at which the carried scratch is cleared: it runs to its end, hands the inputs back as they
    were, and leaves in the output and in each carried scratch the pieces that the run finds. -/
noncomputable def kernelRun0_A (c : Dev nD) (i : grid0.Coords) (arg1 : Memref sig .tc .vmem S4x64x2176 .f32) (harg1 : arg1.IsWhole) (arg2 : Memref sig .tc .vmem S4x64x896 .f32) (harg2 : arg2.IsWhole) (arg3 : Memref sig .tc .vmem S4x64x768 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x896 .f32) (harg8 : arg8.IsWhole) (arg9 : Memref sig .tc .vmem S1x256 .f32) (harg9 : arg9.IsWhole) (arg10 : Memref sig .tc .vmem S32x256 .f32) (harg10 : arg10.IsWhole) (arg11 : Memref sig .tc .vmem S1x256 .f32) (harg11 : arg11.IsWhole) (arg12 : Memref sig .tc .vmem S32x256 .f32) (harg12 : arg12.IsWhole) (arg13 : Memref sig .tc .vmem S64x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S4x64x1024 .bf16) (harg23 : arg23.IsWhole) (arg24 : Memref sig .tc .vmem S4x72x1536 .f32) (harg24 : arg24.IsWhole) (arg25 : Memref sig .tc .vmem S16x128x128 .f32) (harg25 : arg25.IsWhole) (arg26 : Memref sig .tc .vmem S4x72x896 .f32) (harg26 : arg26.IsWhole) (arg27 : Memref sig .tc .vmem S8x128x128 .f32) (harg27 : arg27.IsWhole) (arg28 : Memref sig .tc .vmem S4x128x256 .f32) (harg28 : arg28.IsWhole) (hc0 : cond0_0 i)
    (x0 : Vec F S4x64x2176 .f32) (x1 : Vec F S4x64x896 .f32) (x2 : Vec F S4x64x768 .f32) (x3 : Vec F S4x1536 .f32) (x4 : Vec F S1x128 .f32) (x5 : Vec F S1x128 .f32) (x6 : Vec F S1x128 .f32) (x7 : Vec F S1x896 .f32) (x8 : Vec F S1x256 .f32) (x9 : Vec F S32x256 .f32) (x10 : Vec F S1x256 .f32) (x11 : Vec F S32x256 .f32) (x12 : Vec F S64x256 .f32) (x13 : Vec F S1x256 .f32) (x14 : Vec F S1x256 .f32) (x15 : Vec F S1x256 .f32) (x16 : Vec F S1x256 .f32) (x17 : Vec F S1x256 .f32) (x18 : Vec F S64x128 .f32) (x19 : Vec F S64x128 .f32) (x20 : Vec F S1x256 .f32) (x21 : Vec F S1x256 .f32) :
    Σ' (LS0 : List (View.Piece (Elt F) S4x72x1536 .f32)), Σ' (LS1 : List (View.Piece (Elt F) S16x128x128 .f32)), Σ' (LS2 : List (View.Piece (Elt F) S4x72x896 .f32)), Σ' (LS3 : List (View.Piece (Elt F) S8x128x128 .f32)), { LS4 : List (View.Piece (Elt F) S4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4)) -∗ K ⟨⟩))
          ⊢ wp frame (wpE (defs₀ (F := F)) Variants.none c none) E (cc0_mixers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, fun E K => ?run⟩
  case run =>
    simp only [cc0_mixers_eq_skeleton]; unfold cc0_mixers_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _, _; isplitr; swap; · iexact H22
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.MixersBits

end
-- ==== Proof.MixersBitsRunB.lean ====
/-
  The run of the mixers' body at a chunk after the first.
-/
module

public import proofs.«01_k».proof.Proof.MixersBitsRunA

@[expose] public section

set_option maxRecDepth 16384

noncomputable section

namespace Cert.MixersBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- The mixers' body on whole staging buffers, at a chunk after the first: it runs to its end, hands the inputs back as they
    were, and leaves in the output and in each carried scratch the pieces that the run finds. -/
noncomputable def kernelRun0_B (c : Dev nD) (i : grid0.Coords) (arg1 : Memref sig .tc .vmem S4x64x2176 .f32) (harg1 : arg1.IsWhole) (arg2 : Memref sig .tc .vmem S4x64x896 .f32) (harg2 : arg2.IsWhole) (arg3 : Memref sig .tc .vmem S4x64x768 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x896 .f32) (harg8 : arg8.IsWhole) (arg9 : Memref sig .tc .vmem S1x256 .f32) (harg9 : arg9.IsWhole) (arg10 : Memref sig .tc .vmem S32x256 .f32) (harg10 : arg10.IsWhole) (arg11 : Memref sig .tc .vmem S1x256 .f32) (harg11 : arg11.IsWhole) (arg12 : Memref sig .tc .vmem S32x256 .f32) (harg12 : arg12.IsWhole) (arg13 : Memref sig .tc .vmem S64x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S4x64x1024 .bf16) (harg23 : arg23.IsWhole) (arg24 : Memref sig .tc .vmem S4x72x1536 .f32) (harg24 : arg24.IsWhole) (arg25 : Memref sig .tc .vmem S16x128x128 .f32) (harg25 : arg25.IsWhole) (arg26 : Memref sig .tc .vmem S4x72x896 .f32) (harg26 : arg26.IsWhole) (arg27 : Memref sig .tc .vmem S8x128x128 .f32) (harg27 : arg27.IsWhole) (arg28 : Memref sig .tc .vmem S4x128x256 .f32) (harg28 : arg28.IsWhole) (hc0 : ¬cond0_0 i)
    (x0 : Vec F S4x64x2176 .f32) (x1 : Vec F S4x64x896 .f32) (x2 : Vec F S4x64x768 .f32) (x3 : Vec F S4x1536 .f32) (x4 : Vec F S1x128 .f32) (x5 : Vec F S1x128 .f32) (x6 : Vec F S1x128 .f32) (x7 : Vec F S1x896 .f32) (x8 : Vec F S1x256 .f32) (x9 : Vec F S32x256 .f32) (x10 : Vec F S1x256 .f32) (x11 : Vec F S32x256 .f32) (x12 : Vec F S64x256 .f32) (x13 : Vec F S1x256 .f32) (x14 : Vec F S1x256 .f32) (x15 : Vec F S1x256 .f32) (x16 : Vec F S1x256 .f32) (x17 : Vec F S1x256 .f32) (x18 : Vec F S64x128 .f32) (x19 : Vec F S64x128 .f32) (x20 : Vec F S1x256 .f32) (x21 : Vec F S1x256 .f32) (xs0 : Vec F S4x72x1536 .f32) (xs1 : Vec F S16x128x128 .f32) (xs2 : Vec F S4x72x896 .f32) (xs3 : Vec F S8x128x128 .f32) (xs4 : Vec F S4x128x256 .f32) :
    Σ' (LS0 : List (View.Piece (Elt F) S4x72x1536 .f32)), Σ' (LS1 : List (View.Piece (Elt F) S16x128x128 .f32)), Σ' (LS2 : List (View.Piece (Elt F) S4x72x896 .f32)), Σ' (LS3 : List (View.Piece (Elt F) S8x128x128 .f32)), { LS4 : List (View.Piece (Elt F) S4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4)) -∗ K ⟨⟩))
          ⊢ wp frame (wpE (defs₀ (F := F)) Variants.none c none) E (cc0_mixers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, fun E K => ?run⟩
  case run =>
    simp only [cc0_mixers_eq_skeleton]; unfold cc0_mixers_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg24.eq_unread hfs0; obtain rfl := harg25.eq_unread hfs1; obtain rfl := harg26.eq_unread hfs2; obtain rfl := harg27.eq_unread hfs3; obtain rfl := harg28.eq_unread hfs4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _, _; isplitr; swap; · iexact H22
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.MixersBits

end
-- ==== Proof.MixersBitsOuts.lean ====
/-
  What one chunk of the mixers leaves in the output block and in the carried scratch.
-/
module

public import proofs.«01_k».proof.Proof.MixersBitsRunB
public import Idealize.ShloMosaic.Lib.Claim

@[expose] public section

set_option maxRecDepth 16384

noncomputable section

namespace Cert.MixersBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section CaseA
variable (c : Dev nD) (i : grid0.Coords) (arg1 : Memref sig .tc .vmem S4x64x2176 .f32) (harg1 : arg1.IsWhole) (arg2 : Memref sig .tc .vmem S4x64x896 .f32) (harg2 : arg2.IsWhole) (arg3 : Memref sig .tc .vmem S4x64x768 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x896 .f32) (harg8 : arg8.IsWhole) (arg9 : Memref sig .tc .vmem S1x256 .f32) (harg9 : arg9.IsWhole) (arg10 : Memref sig .tc .vmem S32x256 .f32) (harg10 : arg10.IsWhole) (arg11 : Memref sig .tc .vmem S1x256 .f32) (harg11 : arg11.IsWhole) (arg12 : Memref sig .tc .vmem S32x256 .f32) (harg12 : arg12.IsWhole) (arg13 : Memref sig .tc .vmem S64x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S4x64x1024 .bf16) (harg23 : arg23.IsWhole) (arg24 : Memref sig .tc .vmem S4x72x1536 .f32) (harg24 : arg24.IsWhole) (arg25 : Memref sig .tc .vmem S16x128x128 .f32) (harg25 : arg25.IsWhole) (arg26 : Memref sig .tc .vmem S4x72x896 .f32) (harg26 : arg26.IsWhole) (arg27 : Memref sig .tc .vmem S8x128x128 .f32) (harg27 : arg27.IsWhole) (arg28 : Memref sig .tc .vmem S4x128x256 .f32) (harg28 : arg28.IsWhole) (hc0 : cond0_0 i)
  (x0 : Vec F S4x64x2176 .f32) (x1 : Vec F S4x64x896 .f32) (x2 : Vec F S4x64x768 .f32) (x3 : Vec F S4x1536 .f32) (x4 : Vec F S1x128 .f32) (x5 : Vec F S1x128 .f32) (x6 : Vec F S1x128 .f32) (x7 : Vec F S1x896 .f32) (x8 : Vec F S1x256 .f32) (x9 : Vec F S32x256 .f32) (x10 : Vec F S1x256 .f32) (x11 : Vec F S32x256 .f32) (x12 : Vec F S64x256 .f32) (x13 : Vec F S1x256 .f32) (x14 : Vec F S1x256 .f32) (x15 : Vec F S1x256 .f32) (x16 : Vec F S1x256 .f32) (x17 : Vec F S1x256 .f32) (x18 : Vec F S64x128 .f32) (x19 : Vec F S64x128 .f32) (x20 : Vec F S1x256 .f32) (x21 : Vec F S1x256 .f32)

/-- The pieces stored at the first chunk cover scratch 24. -/
theorem scover0_A_0 (y : S4x72x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).1 ![4, 8, 1536] (by sl_kernel_rfl) y

/-- What is left, at the first chunk, in scratch 24. -/
def sout0_A_0 : Vec F S4x72x1536 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).1)

/-- The pieces stored at the first chunk cover scratch 25. -/
theorem scover0_A_1 (y : S16x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.1 S16x128x128.size (by sl_kernel_rfl) y

/-- What is left, at the first chunk, in scratch 25. -/
def sout0_A_1 : Vec F S16x128x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.1)

/-- The pieces stored at the first chunk cover scratch 26. -/
theorem scover0_A_2 (y : S4x72x896.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.1 ![4, 8, 896] (by sl_kernel_rfl) y

/-- What is left, at the first chunk, in scratch 26. -/
def sout0_A_2 : Vec F S4x72x896 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.1)

/-- The pieces stored at the first chunk cover scratch 27. -/
theorem scover0_A_3 (y : S8x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.1 S8x128x128.size (by sl_kernel_rfl) y

/-- What is left, at the first chunk, in scratch 27. -/
def sout0_A_3 : Vec F S8x128x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.1)

/-- The pieces stored at the first chunk cover scratch 28. -/
theorem scover0_A_4 (y : S4x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.2.1 S4x128x256.size (by sl_kernel_rfl) y

/-- What is left, at the first chunk, in scratch 28. -/
def sout0_A_4 : Vec F S4x128x256 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21).2.2.2.2.1)

end CaseA

section CaseB
variable (c : Dev nD) (i : grid0.Coords) (arg1 : Memref sig .tc .vmem S4x64x2176 .f32) (harg1 : arg1.IsWhole) (arg2 : Memref sig .tc .vmem S4x64x896 .f32) (harg2 : arg2.IsWhole) (arg3 : Memref sig .tc .vmem S4x64x768 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x896 .f32) (harg8 : arg8.IsWhole) (arg9 : Memref sig .tc .vmem S1x256 .f32) (harg9 : arg9.IsWhole) (arg10 : Memref sig .tc .vmem S32x256 .f32) (harg10 : arg10.IsWhole) (arg11 : Memref sig .tc .vmem S1x256 .f32) (harg11 : arg11.IsWhole) (arg12 : Memref sig .tc .vmem S32x256 .f32) (harg12 : arg12.IsWhole) (arg13 : Memref sig .tc .vmem S64x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S4x64x1024 .bf16) (harg23 : arg23.IsWhole) (arg24 : Memref sig .tc .vmem S4x72x1536 .f32) (harg24 : arg24.IsWhole) (arg25 : Memref sig .tc .vmem S16x128x128 .f32) (harg25 : arg25.IsWhole) (arg26 : Memref sig .tc .vmem S4x72x896 .f32) (harg26 : arg26.IsWhole) (arg27 : Memref sig .tc .vmem S8x128x128 .f32) (harg27 : arg27.IsWhole) (arg28 : Memref sig .tc .vmem S4x128x256 .f32) (harg28 : arg28.IsWhole) (hc0 : ¬cond0_0 i)
  (x0 : Vec F S4x64x2176 .f32) (x1 : Vec F S4x64x896 .f32) (x2 : Vec F S4x64x768 .f32) (x3 : Vec F S4x1536 .f32) (x4 : Vec F S1x128 .f32) (x5 : Vec F S1x128 .f32) (x6 : Vec F S1x128 .f32) (x7 : Vec F S1x896 .f32) (x8 : Vec F S1x256 .f32) (x9 : Vec F S32x256 .f32) (x10 : Vec F S1x256 .f32) (x11 : Vec F S32x256 .f32) (x12 : Vec F S64x256 .f32) (x13 : Vec F S1x256 .f32) (x14 : Vec F S1x256 .f32) (x15 : Vec F S1x256 .f32) (x16 : Vec F S1x256 .f32) (x17 : Vec F S1x256 .f32) (x18 : Vec F S64x128 .f32) (x19 : Vec F S64x128 .f32) (x20 : Vec F S1x256 .f32) (x21 : Vec F S1x256 .f32) (xs0 : Vec F S4x72x1536 .f32) (xs1 : Vec F S16x128x128 .f32) (xs2 : Vec F S4x72x896 .f32) (xs3 : Vec F S8x128x128 .f32) (xs4 : Vec F S4x128x256 .f32)

/-- The pieces stored at a later chunk cover scratch 24. -/
theorem scover0_B_0 (y : S4x72x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).1 ![4, 8, 1536] (by sl_kernel_rfl) y

/-- What is left, at a later chunk, in scratch 24. -/
def sout0_B_0 : Vec F S4x72x1536 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).1)

/-- The pieces stored at a later chunk cover scratch 25. -/
theorem scover0_B_1 (y : S16x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.1 S16x128x128.size (by sl_kernel_rfl) y

/-- What is left, at a later chunk, in scratch 25. -/
def sout0_B_1 : Vec F S16x128x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.1)

/-- The pieces stored at a later chunk cover scratch 26. -/
theorem scover0_B_2 (y : S4x72x896.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.1 ![4, 8, 896] (by sl_kernel_rfl) y

/-- What is left, at a later chunk, in scratch 26. -/
def sout0_B_2 : Vec F S4x72x896 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.1)

/-- The pieces stored at a later chunk cover scratch 27. -/
theorem scover0_B_3 (y : S8x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.1 S8x128x128.size (by sl_kernel_rfl) y

/-- What is left, at a later chunk, in scratch 27. -/
def sout0_B_3 : Vec F S8x128x128 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.1)

/-- The pieces stored at a later chunk cover scratch 28. -/
theorem scover0_B_4 (y : S4x128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.2.1 S4x128x256.size (by sl_kernel_rfl) y

/-- What is left, at a later chunk, in scratch 28. -/
def sout0_B_4 : Vec F S4x128x256 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4).2.2.2.2.1)

end CaseB

end Cert.MixersBits

end
-- ==== Proof.RetRefFrame.lean ====
/-
  The retention's reference as a run: which buffers its stretches write, and that it keeps its arguments.
-/
module

public import proofs.«01_k».proof.Proof.Gen.ReferenceIdeal.Run
public import proofs.«01_k».proof.Defs

@[expose] public section

set_option maxRecDepth 100000

noncomputable section

namespace Cert.ReferenceIdeal.Ret

open Cert.ReferenceIdeal Cert.ReferenceIdeal.Gen Cert.ReferenceIdeal.Value
open Idealize.ShloMosaic Idealize.ShloMosaic.TcCoe Idealize.ShloMosaic.StableHlo Idealize.SL.Sem

/-- What the first stretch after the loop writes. -/
abbrev wrote7 : List (Ref sig .tc) := [main_v132, main_v133, main_v134, main_cst_19, main_v135, main_v136, main_cst_20, main_v137, main_v138, main_v139, main_v140, main_v141, main_cst_21, main_v142, main_v143, main_cst_22, main_v144, main_v145, main_v146, main_v147, main_cst_23, main_v148, main_v149, main_v150, main_v151, main_v152, main_v153, main_v154, main_v155, main_v156, main_v157, main_v158, main_v159]

theorem hostOps0_7_wrote : (hostOps0_7 : List (HloOp τ sig (Elt Ideal))).Forall fun op => op.writes ⊆ (wrote7.map (Proc.devRef (τ := τ) .tc)).toFinset :=
  forall_writes_sub_of_map rfl

/-- What the second stretch after the loop writes. -/
abbrev wrote8 : List (Ref sig .tc) := [main_call7_v0, main_call7_v1, main_call7_cst, main_call7_v2, main_call7_v3, main_call7_cst_0, main_call7_v4, main_call7_v5, main_v160]

theorem hostOps0_8_wrote : (hostOps0_8 : List (HloOp τ sig (Elt Ideal))).Forall fun op => op.writes ⊆ (wrote8.map (Proc.devRef (τ := τ) .tc)).toFinset :=
  forall_writes_sub_of_map rfl

/-- What the third stretch after the loop writes. -/
abbrev wrote9 : List (Ref sig .tc) := [main_v161, main_cst_24, main_v162, main_v163, main_v164, main_v165, main_v166, main_v167]

theorem hostOps0_9_wrote : (hostOps0_9 : List (HloOp τ sig (Elt Ideal))).Forall fun op => op.writes ⊆ (wrote9.map (Proc.devRef (τ := τ) .tc)).toFinset :=
  forall_writes_sub_of_map rfl

/-- Everything the stretches before the loop write. -/
abbrev wrotePre : List (Ref sig .tc) := hostOps0_W ++ hostOps0_1_W ++ hostOps0_2_W ++ hostOps0_3_W ++ hostOps0_4_W ++ hostOps0_5_W ++ hostOps0_6_W

/-- Everything a trip of the loop writes. -/
abbrev wroteTrip : List (Ref sig .tc) := condOps_W ++ while0Ops0_W ++ while0Ops0_1_W ++ while0Ops0_2_W ++ while0Ops0_3_W ++ while0Ops0_4_W ++ while0Ops0_5_W

/-- Everything the stretches after the loop write. -/
abbrev wrotePost : List (Ref sig .tc) := wrote7 ++ wrote8 ++ wrote9

variable (m : (ℓ : Loc nD τ sig) → Buf (Elt Ideal) ℓ)

theorem pre_keeps {r : Ref sig .tc} (V : Valuation τ sig (Elt Ideal)) (h : r ∉ wrotePre) : afterL preI V (Proc.devRef .tc r) = V (Proc.devRef .tc r) := by
  unfold wrotePre at h
  simp only [List.mem_append, not_or] at h
  obtain ⟨⟨⟨⟨⟨⟨h0, h1⟩, h2⟩, h3⟩, h4⟩, h5⟩, h6⟩ := h
  simp only [afterL_cons, afterL_nil]
  rw [after_of_writes_sub hostOps0_6 _ hostOps0_6_writes h6, after_of_writes_sub hostOps0_5 _ hostOps0_5_writes h5, after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]

theorem trip_keeps {r : Ref sig .tc} (V : Valuation τ sig (Elt Ideal)) (h : r ∉ wroteTrip) :
    afterL bodyI (after condOps V) (Proc.devRef .tc r) = V (Proc.devRef .tc r) := by
  unfold wroteTrip at h
  simp only [List.mem_append, not_or] at h
  obtain ⟨⟨⟨⟨⟨⟨h0, h1⟩, h2⟩, h3⟩, h4⟩, h5⟩, h6⟩ := h
  simp only [afterL_cons, afterL_nil]
  rw [after_of_writes_sub while0Ops0_5 _ while0Ops0_5_writes h6, after_of_writes_sub while0Ops0_4 _ while0Ops0_4_writes h5, after_of_writes_sub while0Ops0_3 _ while0Ops0_3_writes h4, after_of_writes_sub while0Ops0_2 _ while0Ops0_2_writes h3, after_of_writes_sub while0Ops0_1 _ while0Ops0_1_writes h2, after_of_writes_sub while0Ops0 _ while0Ops0_writes h1, after_of_writes_sub condOps _ condOps_writes h0]

theorem post_keeps {r : Ref sig .tc} (V : Valuation τ sig (Elt Ideal)) (h : r ∉ wrotePost) : afterL postI V (Proc.devRef .tc r) = V (Proc.devRef .tc r) := by
  unfold wrotePost at h
  simp only [List.mem_append, not_or] at h
  obtain ⟨⟨h0, h1⟩, h2⟩ := h
  simp only [afterL_cons, afterL_nil]
  rw [after_of_writes_sub hostOps0_9 _ hostOps0_9_wrote h2, after_of_writes_sub hostOps0_8 _ hostOps0_8_wrote h1, after_of_writes_sub hostOps0_7 _ hostOps0_7_wrote h0]

/-- A buffer that no trip writes holds at every trip what it held when the loop was entered. -/
theorem atK_keeps {r : Ref sig .tc} (c : Dev nD) (h : r ∉ wroteTrip) :
    ∀ k, atK m k c (Proc.devRef .tc r) = entryContents preI m c (Proc.devRef .tc r)
  | 0 => rfl
  | k + 1 => (trip_keeps (atK m k c) h).trans (atK_keeps c h k)

theorem end_keeps {r : Ref sig .tc} (c : Dev nD) (h : r ∉ condOps_W) (h' : r ∉ wrotePost) :
    finalContents condOps preI bodyI postI 129 m c (Proc.devRef .tc r) = atK m 129 c (Proc.devRef .tc r) :=
  (post_keeps _ h').trans (after_of_writes_sub condOps _ condOps_writes h)

/-- An argument ends as it started. -/
theorem argument {r : Ref sig .tc} (c : Dev nD) (h₀ : r ∉ wrotePre) (h₁ : r ∉ wroteTrip) (h₂ : r ∉ condOps_W) (h₃ : r ∉ wrotePost) :
    finalContents condOps preI bodyI postI 129 m c (Proc.devRef .tc r) = m ((c.tc : Thread nD τ).loc r) :=
  (end_keeps m c h₂ h₃).trans ((atK_keeps m c h₁ 129).trans (pre_keeps _ h₀))

/-- The reference runs and keeps its arguments. -/
theorem frame_reference : Cert.quiescent_ReferenceIdeal := fun m ρ _ =>
  (θ_run Cert.ReferenceIdeal.defs _ _).mono (fun r h => ⟨fun c => ⟨(h c main_arg0 rfl).trans (argument m c (by decide +kernel) (by decide +kernel) (by decide +kernel) (by decide +kernel)),
    (h c main_arg1 rfl).trans (argument m c (by decide +kernel) (by decide +kernel) (by decide +kernel) (by decide +kernel)),
    (h c main_arg2 rfl).trans (argument m c (by decide +kernel) (by decide +kernel) (by decide +kernel) (by decide +kernel)),
    (h c main_arg3 rfl).trans (argument m c (by decide +kernel) (by decide +kernel) (by decide +kernel) (by decide +kernel)),
    (h c main_arg4 rfl).trans (argument m c (by decide +kernel) (by decide +kernel) (by decide +kernel) (by decide +kernel)),
    (h c main_arg5 rfl).trans (argument m c (by decide +kernel) (by decide +kernel) (by decide +kernel) (by decide +kernel)),
    (h c main_arg6 rfl).trans (argument m c (by decide +kernel) (by decide +kernel) (by decide +kernel) (by decide +kernel)),
    (h c main_arg7 rfl).trans (argument m c (by decide +kernel) (by decide +kernel) (by decide +kernel) (by decide +kernel)),
    (h c main_arg8 rfl).trans (argument m c (by decide +kernel) (by decide +kernel) (by decide +kernel) (by decide +kernel)),
    (h c main_arg9 rfl).trans (argument m c (by decide +kernel) (by decide +kernel) (by decide +kernel) (by decide +kernel)),
    (h c main_arg10 rfl).trans (argument m c (by decide +kernel) (by decide +kernel) (by decide +kernel) (by decide +kernel)),
    (h c main_arg11 rfl).trans (argument m c (by decide +kernel) (by decide +kernel) (by decide +kernel) (by decide +kernel)),
    (h c main_arg12 rfl).trans (argument m c (by decide +kernel) (by decide +kernel) (by decide +kernel) (by decide +kernel)),
    (h c main_arg13 rfl).trans (argument m c (by decide +kernel) (by decide +kernel) (by decide +kernel) (by decide +kernel)),
    (h c main_arg14 rfl).trans (argument m c (by decide +kernel) (by decide +kernel) (by decide +kernel) (by decide +kernel)),
    (h c main_arg15 rfl).trans (argument m c (by decide +kernel) (by decide +kernel) (by decide +kernel) (by decide +kernel)),
    (h c main_arg16 rfl).trans (argument m c (by decide +kernel) (by decide +kernel) (by decide +kernel) (by decide +kernel)),
    (h c main_arg17 rfl).trans (argument m c (by decide +kernel) (by decide +kernel) (by decide +kernel) (by decide +kernel)),
    (h c main_arg18 rfl).trans (argument m c (by decide +kernel) (by decide +kernel) (by decide +kernel) (by decide +kernel)),
    (h c main_arg19 rfl).trans (argument m c (by decide +kernel) (by decide +kernel) (by decide +kernel) (by decide +kernel))⟩,
    Idealize.ShloMosaic.sem_eq_zero_of_no_sems (by decide) r.2⟩)
    (run_fold (F := Ideal) m ρ)

end Cert.ReferenceIdeal.Ret

end
-- ==== Proof.RetSpec.lean ====
module

public import Idealize.ShloMosaic.Lib.Pointwise
public import Idealize.ShloMosaic.Lib.Pipeline.ValueKit

@[expose] public section

/-!
The retention mixer in extended reals, head by head. A chunk has 64 rows; a head has 32 key columns and 64 value columns. The
state a head carries from chunk to chunk is decayed by the head's factor and receives the decayed keys against the values; a
row of the output reads the rows of its own chunk up to itself and the state the chunk was entered with.
-/

noncomputable section

namespace Cert.Ret

open Idealize.ShloMosaic

/-- Column `d` of head `h` among the 128 key columns. -/
def at32 (h : Fin 4) (d : Fin 32) : Fin 128 := ⟨h.val * 32 + d.val, by omega⟩

/-- Column `e` of head `h` among the 256 value columns. -/
def at64 (h : Fin 4) (e : Fin 64) : Fin 256 := ⟨h.val * 64 + e.val, by omega⟩

theorem at32_val (h : Fin 4) (d : Fin 32) : (at32 h d).val = h.val * 32 + d.val := rfl

theorem at64_val (h : Fin 4) (e : Fin 64) : (at64 h e).val = h.val * 64 + e.val := rfl

theorem at32_div (h : Fin 4) (d : Fin 32) : (at32 h d).val / 32 = h.val := by rw [at32_val]; omega

theorem at64_div (h : Fin 4) (e : Fin 64) : (at64 h e).val / 64 = h.val := by rw [at64_val]; omega

theorem at64_mod (h : Fin 4) (e : Fin 64) : (at64 h e).val % 64 = e.val := by rw [at64_val]; omega

theorem at32_mod (h : Fin 4) (d : Fin 32) : (at32 h d).val % 32 = d.val := by rw [at32_val]; omega

theorem exists_at32 (x : Fin 128) : ∃ h d, x = at32 h d :=
  ⟨⟨x.val / 32, by omega⟩, ⟨x.val % 32, by omega⟩, Fin.ext (by rw [at32_val]; show x.val = x.val / 32 * 32 + x.val % 32; omega)⟩

theorem exists_at64 (x : Fin 256) : ∃ h e, x = at64 h e :=
  ⟨⟨x.val / 64, by omega⟩, ⟨x.val % 64, by omega⟩, Fin.ext (by rw [at64_val]; show x.val = x.val / 64 * 64 + x.val % 64; omega)⟩

theorem at32_inj {h h' : Fin 4} {d d' : Fin 32} : at32 h d = at32 h' d' ↔ h = h' ∧ d = d' := by
  constructor
  · intro e
    have e := congrArg Fin.val e
    rw [at32_val, at32_val] at e
    exact ⟨Fin.ext (by omega), Fin.ext (by omega)⟩
  · rintro ⟨rfl, rfl⟩; rfl

theorem at64_inj {h h' : Fin 4} {d d' : Fin 64} : at64 h d = at64 h' d' ↔ h = h' ∧ d = d' := by
  constructor
  · intro e
    have e := congrArg Fin.val e
    rw [at64_val, at64_val] at e
    exact ⟨Fin.ext (by omega), Fin.ext (by omega)⟩
  · rintro ⟨rfl, rfl⟩; rfl

/-- A sum over the 128 key columns, of which one head's alone count. -/
theorem sum32 (f : Fin 128 → EReal) (h : Fin 4) (hz : ∀ h' d, h' ≠ h → f (at32 h' d) = 0) :
    ∑ x, f x = ∑ d, f (at32 h d) := by
  symm
  refine Finset.sum_bij_ne_zero (fun d _ _ => at32 h d) (fun _ _ _ => Finset.mem_univ _)
    (fun _ _ _ _ _ _ e => (at32_inj.mp e).2) (fun x _ hx => ?_) (fun _ _ _ => rfl)
  obtain ⟨h', d, rfl⟩ := exists_at32 x
  by_cases e : h' = h
  · subst e; exact ⟨d, Finset.mem_univ _, hx, rfl⟩
  · exact absurd (hz h' d e) hx

/-- A sum over the 256 value columns, of which one head's alone count. -/
theorem sum64 (f : Fin 256 → EReal) (h : Fin 4) (hz : ∀ h' d, h' ≠ h → f (at64 h' d) = 0) :
    ∑ x, f x = ∑ d, f (at64 h d) := by
  symm
  refine Finset.sum_bij_ne_zero (fun d _ _ => at64 h d) (fun _ _ _ => Finset.mem_univ _)
    (fun _ _ _ _ _ _ e => (at64_inj.mp e).2) (fun x _ hx => ?_) (fun _ _ _ => rfl)
  obtain ⟨h', d, rfl⟩ := exists_at64 x
  by_cases e : h' = h
  · subst e; exact ⟨d, Finset.mem_univ _, hx, rfl⟩
  · exact absurd (hz h' d e) hx

/-- The logarithm of head `h`'s decay of one row. -/
def lg (h : Fin 4) : ℝ :=
  if h = 0 then Real.log (31 / 32) else if h = 1 then Real.log (63 / 64) else if h = 2 then Real.log (127 / 128)
  else Real.log (255 / 256)

/-- Head `h`'s decay of a whole chunk. -/
def gc (h : Fin 4) : EReal := Ideal.exp (((lg h : ℝ) : EReal) * 64)

/-- The weight row `i` gives to row `m` of its own chunk. -/
def dIntra (h : Fin 4) (i m : Fin 64) : EReal :=
  if m.val ≤ i.val then Ideal.exp (((lg h : ℝ) : EReal) * ((((i.val : ℝ) - (m.val : ℝ) : ℝ)) : EReal)) else 0

/-- The weight row `i` gives to the state its chunk was entered with. -/
def qDec (h : Fin 4) (i : Fin 64) : EReal := Ideal.exp (((lg h : ℝ) : EReal) * (((i.val : ℝ) + 1 : ℝ) : EReal))

/-- The weight with which row `i` enters the state. -/
def kDec (h : Fin 4) (i : Fin 64) : EReal := Ideal.exp (((lg h : ℝ) : EReal) * ((63 - (i.val : ℝ) : ℝ) : EReal))

/-- A head's 32 columns turned by the row's angles: `c` are the cosines and `s` the signed sines, by column. -/
def rot (c s : Fin 32 → EReal) (x : Fin 32 → EReal) (d : Fin 32) : EReal :=
  x d * c d + (if h : d.val < 16 then x ⟨d.val + 16, by omega⟩ else x ⟨d.val - 16, by omega⟩) * s d

/-- The state after a chunk, from the state before it. -/
def step (h : Fin 4) (K : Fin 64 → Fin 32 → EReal) (V : Fin 64 → Fin 64 → EReal) (S : Fin 32 → Fin 64 → EReal)
    (d : Fin 32) (e : Fin 64) : EReal :=
  S d e * gc h + ∑ i, (K i d * kDec h i) * V i e

/-- Row `i` of a chunk's output of one head, before the norm. -/
def row (h : Fin 4) (Q K : Fin 64 → Fin 32 → EReal) (V : Fin 64 → Fin 64 → EReal) (S : Fin 32 → Fin 64 → EReal)
    (i : Fin 64) (e : Fin 64) : EReal :=
  (∑ m, ((∑ d, Q i d * K m d) * dIntra h i m) * V m e) + ∑ d, (Q i d * qDec h i) * S d e

/-- The state a head is in when chunk `n` is entered. -/
def state (h : Fin 4) (K : ℕ → Fin 64 → Fin 32 → EReal) (V : ℕ → Fin 64 → Fin 64 → EReal) : ℕ → Fin 32 → Fin 64 → EReal
  | 0 => fun _ _ => 0
  | n + 1 => step h (K n) (V n) (state h K V n)

/-- The mean of a head's 64 columns. -/
def avg (y : Fin 64 → EReal) : EReal := Ideal.div (∑ e, y e) 64

theorem sum_mul_of_nonneg {ι : Type} (s : Finset ι) (f : ι → EReal) {x : EReal} (h0 : 0 ≤ x) (ht : x ≠ ⊤) :
    ∑ i ∈ s, f i * x = (∑ i ∈ s, f i) * x := by
  classical
  induction s using Finset.induction_on with
  | empty => simp
  | insert a t ha ih => rw [Finset.sum_insert ha, Finset.sum_insert ha, ih, EReal.right_distrib_of_nonneg_of_ne_top h0 ht]

theorem sum_avg (y : Fin 64 → EReal) : ∑ e, y e * ((1 / 64 : ℝ) : EReal) = avg y := by
  rw [sum_mul_of_nonneg _ _ (by exact_mod_cast (by norm_num : (0 : ℝ) ≤ 1 / 64)) (EReal.coe_ne_top _)]
  unfold avg Ideal.div
  rw [if_neg (by norm_num)]
  congr 1
  have : (64 : EReal) = ((64 : ℝ) : EReal) := rfl
  rw [this, ← EReal.coe_inv]
  norm_num

/-- A head's columns normalised. -/
def gnorm (y : Fin 64 → EReal) (e : Fin 64) : EReal :=
  (y e - avg y) * Ideal.rsqrt (avg (fun e => (y e - avg y) * (y e - avg y)) + Ideal.ofBits .f32 0x3727C5AC#32)

end Cert.Ret

end
-- ==== Proof.RetTables.lean ====
module

public import proofs.«01_k».proof.Proof.Gen.KernelIdeal.Skeleton
public import Idealize.ShloMosaic.Lib.Pointwise
public import Idealize.ShloMosaic.Lib.Pipeline.ValueKit
public import proofs.«01_k».proof.Proof.RetSpec

@[expose] public section

set_option maxRecDepth 16384

/-!
The retention's tables in the mixers' kernel, element by element: which head a lane or a row belongs to, the head's decay, and
the weights made of it.
-/

noncomputable section

namespace Cert.KernelIdeal.Ret

open Cert.KernelIdeal Cert.KernelIdeal.Gen Idealize.ShloMosaic Cert.Ret

theorem sel_eq {α : Type} (a b : BitVec 32) (x y : α) :
    Scalar.select (IntOp.cmpi .eq a b) x y = if a = b then x else y := by
  by_cases h : a = b
  · subst h; simp [Scalar.select, IntOp.cmpi]
  · have hb : (a == b) = false := by simpa using h
    simp [Scalar.select, IntOp.cmpi, h, hb]

/-- The quotient by 32, rounded down, as the kernel computes it. -/
theorem quot32 : ∀ x : Fin 128, Scalar.select
      (IntOp.andi
        (IntOp.cmpi CmpIPredicate.ne
          (IntOp.subi (BitVec.setWidth 32 (IntOp.cmpi CmpIPredicate.sgt (BitVec.ofNat 32 ↑x) 0#32))
            (BitVec.setWidth 32 (IntOp.cmpi CmpIPredicate.slt (BitVec.ofNat 32 ↑x) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 ↑x) 32#32) 0#32))
      (IntOp.subi (IntOp.divsi ArithUnit.vector (BitVec.ofNat 32 ↑x) 32#32) 1#32)
      (IntOp.divsi ArithUnit.vector (BitVec.ofNat 32 ↑x) 32#32) = BitVec.ofNat 32 (x.val / 32) := by
  decide +kernel

/-- The quotient by 64, rounded down, as the kernel computes it. -/
theorem quot64 : ∀ x : Fin 256, Scalar.select
      (IntOp.andi
        (IntOp.cmpi CmpIPredicate.ne
          (IntOp.subi (BitVec.setWidth 32 (IntOp.cmpi CmpIPredicate.sgt (BitVec.ofNat 32 ↑x) 0#32))
            (BitVec.setWidth 32 (IntOp.cmpi CmpIPredicate.slt (BitVec.ofNat 32 ↑x) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑x) 64#32) 0#32))
      (IntOp.subi (IntOp.divsi ArithUnit.vector (BitVec.ofNat 32 ↑x) 64#32) 1#32)
      (IntOp.divsi ArithUnit.vector (BitVec.ofNat 32 ↑x) 64#32) = BitVec.ofNat 32 (x.val / 64) := by
  decide +kernel

/-- The remainder by 64 as the kernel computes it. -/
theorem rem64 : ∀ j : Fin 256, Scalar.select
      (IntOp.andi
        (IntOp.xori
          (IntOp.cmpi CmpIPredicate.slt
            (IntOp.remsi ArithUnit.vector (BitVec.ofNat 32 ↑j)
              (Scalar.select (Scalar.cmpi CmpIPredicate.eq 64#32 0#32) 1#32 64#32))
            0#32)
          (Scalar.cmpi CmpIPredicate.slt
            (Scalar.select (Scalar.cmpi CmpIPredicate.eq 64#32 0#32) 1#32 64#32) 0#32))
        (IntOp.cmpi CmpIPredicate.ne
          (IntOp.remsi ArithUnit.vector (BitVec.ofNat 32 ↑j)
            (Scalar.select (Scalar.cmpi CmpIPredicate.eq 64#32 0#32) 1#32 64#32))
          0#32))
      (IntOp.addi
        (IntOp.remsi ArithUnit.vector (BitVec.ofNat 32 ↑j)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 ↑j)
        (Scalar.select (Scalar.cmpi CmpIPredicate.eq 64#32 0#32) 1#32 64#32)) = BitVec.ofNat 32 (j.val % 64) := by
  decide +kernel

/-- The remainder by 32 as the kernel computes it. -/
theorem rem32 : ∀ j : Fin 128, Scalar.select
      (IntOp.andi
        (IntOp.xori
          (IntOp.cmpi CmpIPredicate.slt
            (IntOp.remsi ArithUnit.vector (BitVec.ofNat 32 ↑j)
              (Scalar.select (Scalar.cmpi CmpIPredicate.eq 32#32 0#32) 1#32 32#32))
            0#32)
          (Scalar.cmpi CmpIPredicate.slt
            (Scalar.select (Scalar.cmpi CmpIPredicate.eq 32#32 0#32) 1#32 32#32) 0#32))
        (IntOp.cmpi CmpIPredicate.ne
          (IntOp.remsi ArithUnit.vector (BitVec.ofNat 32 ↑j)
            (Scalar.select (Scalar.cmpi CmpIPredicate.eq 32#32 0#32) 1#32 32#32))
          0#32))
      (IntOp.addi
        (IntOp.remsi ArithUnit.vector (BitVec.ofNat 32 ↑j)
          (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 ↑j)
        (Scalar.select (Scalar.cmpi CmpIPredicate.eq 32#32 0#32) 1#32 32#32)) = BitVec.ofNat 32 (j.val % 32) := by
  decide +kernel

theorem named_lg0 : Named.named (F := Ideal) κ "log_gamma0" (φ := .f32) 3171027692#32 = ((Real.log (31 / 32) : ℝ) : EReal) :=
  IdealRules.named_const.ideal_named_scalar _ _ _ _ rfl
theorem named_lg1 : Named.named (F := Ideal) κ "log_gamma1" (φ := .f32) 3162571443#32 = ((Real.log (63 / 64) : ℝ) : EReal) :=
  IdealRules.named_const.ideal_named_scalar _ _ _ _ rfl
theorem named_lg2 : Named.named (F := Ideal) κ "log_gamma2" (φ := .f32) 3154149548#32 = ((Real.log (127 / 128) : ℝ) : EReal) :=
  IdealRules.named_const.ideal_named_scalar _ _ _ _ rfl
theorem named_lg3 : Named.named (F := Ideal) κ "log_gamma3" (φ := .f32) 3145744427#32 = ((Real.log (255 / 256) : ℝ) : EReal) :=
  IdealRules.named_const.ideal_named_scalar _ _ _ _ rfl

/-- The choice among the four logarithms by a head's number. -/
theorem ladder_lg (h : Fin 4) :
    Scalar.select (IntOp.cmpi .eq (BitVec.ofNat 32 h.val) 0#32) (Named.named (F := Ideal) κ "log_gamma0" (φ := .f32) 3171027692#32)
      (Scalar.select (IntOp.cmpi .eq (BitVec.ofNat 32 h.val) 1#32) (Named.named (F := Ideal) κ "log_gamma1" (φ := .f32) 3162571443#32)
        (Scalar.select (IntOp.cmpi .eq (BitVec.ofNat 32 h.val) 2#32)
          (Named.named (F := Ideal) κ "log_gamma2" (φ := .f32) 3154149548#32)
          (Named.named (F := Ideal) κ "log_gamma3" (φ := .f32) 3145744427#32))) = ((lg h : ℝ) : EReal) := by
  rw [named_lg0, named_lg1, named_lg2, named_lg3]
  simp only [sel_eq]
  fin_cases h <;> rfl

theorem exp_log64 {x : ℝ} (hx : 0 < x) : Ideal.exp (((Real.log x : ℝ) : EReal) * 64) = ((x ^ 64 : ℝ) : EReal) := by
  have : (((Real.log x : ℝ) : EReal) * 64) = (((64 : ℕ) * Real.log x : ℝ) : EReal) := by
    rw [EReal.coe_mul, mul_comm]; rfl
  rw [this]
  show ((Real.exp _ : ℝ) : EReal) = _
  rw [Real.exp_nat_mul, Real.exp_log hx]

theorem named_gc0 : Named.named (F := Ideal) κ "gamma_chunk0" (φ := .f32) 0x3E063AE5#32 = gc 0 :=
  (IdealRules.named_const.ideal_named_scalar _ _ _ _ rfl).trans
    ((exp_log64 (x := 31 / 32) (by norm_num)).trans (congrArg _ (by norm_num))).symm
theorem named_gc1 : Named.named (F := Ideal) κ "gamma_chunk1" (φ := .f32) 0x3EBADF84#32 = gc 1 :=
  (IdealRules.named_const.ideal_named_scalar _ _ _ _ rfl).trans
    ((exp_log64 (x := 63 / 64) (by norm_num)).trans (congrArg _ (by norm_num))).symm
theorem named_gc2 : Named.named (F := Ideal) κ "gamma_chunk2" (φ := .f32) 0x3F1AF7A1#32 = gc 2 :=
  (IdealRules.named_const.ideal_named_scalar _ _ _ _ rfl).trans
    ((exp_log64 (x := 127 / 128) (by norm_num)).trans (congrArg _ (by norm_num))).symm
theorem named_gc3 : Named.named (F := Ideal) κ "gamma_chunk3" (φ := .f32) 0x3F474682#32 = gc 3 :=
  (IdealRules.named_const.ideal_named_scalar _ _ _ _ rfl).trans
    ((exp_log64 (x := 255 / 256) (by norm_num)).trans (congrArg _ (by norm_num))).symm

theorem toInt_sub : ∀ i m : Fin 64, (IntOp.subi (BitVec.ofNat 32 i.val) (BitVec.ofNat 32 m.val)).toInt = (i.val : ℤ) - (m.val : ℤ) := by
  decide +kernel

theorem toInt_ofNat : ∀ i : Fin 64, (BitVec.ofNat 32 i.val).toInt = (i.val : ℤ) := by decide +kernel

/-- The weight table of a chunk's own rows. -/
def tIntra : FVec Ideal S64x256 .f32 :=
  k0_pay51 (F := Ideal) (k0_pay46 (F := Ideal) k0_pay45 (Scalar.ofBits .f32 0x00000000#32))
    (k0_pay50 (iota .tc S64x256 32 [1] iota_S64x256_d1_w32) k0_pay45 (k0_pay47 (iota .tc S64x256 32 [1] iota_S64x256_d1_w32)) 64#32
      (k0_pay48 (iota .tc S64x256 32 [1] iota_S64x256_d1_w32)) (k0_pay49 (iota .tc S64x256 32 [1] iota_S64x256_d1_w32))
      (Scalar.subi (Scalar.extui (Scalar.cmpi .sgt 64#32 0#32)) (Scalar.extui (Scalar.cmpi .slt 64#32 0#32))))

/-- The head's logarithm by lane. -/
def tLog : FVec Ideal S64x128 .f32 :=
  k0_pay56 (iota .tc S64x128 32 [1] iota_S64x128_d1_w32) k0_pay53 32#32 k0_pay54 k0_pay55 (Scalar.extui (Scalar.cmpi .sgt 32#32 0#32))

/-- The decay of the whole chunk by the state's row. -/
def tScale : FVec Ideal S128x256 .f32 :=
  k0_pay70 (k0_pay66 (iota .tc S128x256 32 [0] iota_S128x256_d0_w32) (k0_pay63 (iota .tc S128x256 32 [0] iota_S128x256_d0_w32)) 32#32
      (k0_pay64 (iota .tc S128x256 32 [0] iota_S128x256_d0_w32)) (k0_pay65 (iota .tc S128x256 32 [0] iota_S128x256_d0_w32)))
    (k0_pay67 (iota .tc S128x256 32 [0] iota_S128x256_d0_w32)) (k0_pay68 (iota .tc S128x256 32 [0] iota_S128x256_d0_w32))
    (k0_pay69 (iota .tc S128x256 32 [0] iota_S128x256_d0_w32))

/-- Whether a state's row and column belong to one head. -/
def tHead : IVec S128x256 1 :=
  k0_pay62 (iota .tc S128x256 32 [1] iota_S128x256_d1_w32) k0_pay59 64#32 k0_pay60 k0_pay61
    (Scalar.extui (Scalar.cmpi .sgt 64#32 0#32)) (Scalar.extui (Scalar.cmpi .slt 64#32 0#32))

/-- The averaging matrix of the head norm. -/
def tAvg : FVec Ideal S256x256 .bf16 :=
  k0_pay75 k0_pay71 (iota .tc S256x256 32 [1] iota_S256x256_d1_w32) 64#32 k0_pay72 k0_pay73 k0_pay74

theorem tIntra_apply (i : Fin 64) (h : Fin 4) (m : Fin 64) : tIntra (ix2 i (at64 h m)) = dIntra h i m := by
  pointwise [tIntra, k0_pay51, k0_pay46, k0_pay45, k0_pay50, k0_pay47, k0_pay48, k0_pay49]
  rw [rem64, quot64, at64_div, at64_mod, ladder_lg]
  have hs : (FloatOps.sitofp (F := Ideal) FTy.f32 (IntOp.subi (BitVec.ofNat 32 i.val) (BitVec.ofNat 32 m.val)) : EReal)
      = (((i.val : ℝ) - (m.val : ℝ) : ℝ) : EReal) := by
    show ((((IntOp.subi (BitVec.ofNat 32 i.val) (BitVec.ofNat 32 m.val)).toInt : ℝ)) : EReal) = _
    rw [toInt_sub]; push_cast; rfl
  rw [hs]
  unfold dIntra
  by_cases hm : m.val ≤ i.val
  · have h0 : (0 : ℝ) ≤ (i.val : ℝ) - (m.val : ℝ) := by
      have : (m.val : ℝ) ≤ (i.val : ℝ) := by exact_mod_cast hm
      linarith
    have h1 : (0 : EReal) ≤ (((i.val : ℝ) - (m.val : ℝ) : ℝ) : EReal) := by exact_mod_cast h0
    simp only [if_pos hm, if_pos h1, max_eq_left h1]
  · have h0 : ¬ (0 : ℝ) ≤ (i.val : ℝ) - (m.val : ℝ) := by
      have : (i.val : ℝ) < (m.val : ℝ) := by exact_mod_cast (not_le.mp hm)
      linarith
    have h1 : ¬ (0 : EReal) ≤ (((i.val : ℝ) - (m.val : ℝ) : ℝ) : EReal) := by exact_mod_cast h0
    simp only [if_neg hm, if_neg h1]

theorem tLog_apply (i : Fin 64) (h : Fin 4) (d : Fin 32) : tLog (ix2 i (at32 h d)) = ((lg h : ℝ) : EReal) := by
  pointwise [tLog, k0_pay56, k0_pay53, k0_pay54, k0_pay55]
  rw [quot32, at32_div, ladder_lg]

theorem qScale_apply (i : Fin 64) (h : Fin 4) (d : Fin 32) :
    k0_pay57 (F := Ideal) k0_pay52 tLog (Scalar.ofBits .f32 0x3F800000#32) (ix2 i (at32 h d)) = qDec h i := by
  pointwise [k0_pay57, k0_pay52]
  rw [tLog_apply]
  have hs : (FloatOps.sitofp (F := Ideal) FTy.f32 (BitVec.ofNat 32 i.val) : EReal) = ((i.val : ℝ) : EReal) := by
    show ((((BitVec.ofNat 32 i.val).toInt : ℝ)) : EReal) = _
    rw [toInt_ofNat]; push_cast; rfl
  rw [hs]
  unfold qDec
  rw [EReal.coe_add, EReal.coe_one]

theorem kScale_apply (i : Fin 64) (h : Fin 4) (d : Fin 32) :
    k0_pay58 (F := Ideal) k0_pay52 tLog (ix2 i (at32 h d)) = kDec h i := by
  pointwise [k0_pay58, k0_pay52]
  rw [tLog_apply]
  have hs : (FloatOps.sitofp (F := Ideal) FTy.f32 (BitVec.ofNat 32 i.val) : EReal) = ((i.val : ℝ) : EReal) := by
    show ((((BitVec.ofNat 32 i.val).toInt : ℝ)) : EReal) = _
    rw [toInt_ofNat]; push_cast; rfl
  rw [hs]
  unfold kDec
  have hc : Ideal.ofBits FTy.f32 1115422720#32 = ((63 : ℝ) : EReal) := by
    simp [Ideal.ofBits, Ideal.ieee, -EReal.coe_mul]; norm_num
  rw [hc, EReal.coe_sub]

theorem tScale_apply (h : Fin 4) (d : Fin 32) (j : Fin 256) : tScale (ix2 (at32 h d) j) = gc h := by
  pointwise [tScale, k0_pay70, k0_pay69, k0_pay68, k0_pay67, k0_pay66, k0_pay65, k0_pay64, k0_pay63]
  rw [quot32, at32_div]
  simp only [sel_eq]
  fin_cases h
  · exact named_gc0
  · exact named_gc1
  · exact named_gc2
  · exact named_gc3

theorem tHead_apply (h : Fin 4) (d : Fin 32) (h' : Fin 4) (e : Fin 64) :
    tHead (ix2 (at32 h d) (at64 h' e)) = if h = h' then 1#1 else 0#1 := by
  pointwise [tHead, k0_pay59, k0_pay60, k0_pay61, k0_pay62]
  rw [quot32, quot64, at32_div, at64_div]
  revert h h'; decide +kernel

theorem tAvg_apply (h : Fin 4) (e : Fin 64) (h' : Fin 4) (e' : Fin 64) :
    tAvg (ix2 (at64 h e) (at64 h' e')) = if h = h' then ((1 / 64 : ℝ) : EReal) else 0 := by
  pointwise [tAvg, k0_pay71, k0_pay72, k0_pay73, k0_pay74, k0_pay75]
  rw [quot64, quot64, at64_div, at64_div]
  rw [sel_eq]
  have hw : Ideal.ofBits FTy.f32 1015021568#32 = ((1 / 64 : ℝ) : EReal) := by
    simp [Ideal.ofBits, Ideal.ieee, -EReal.coe_mul]; norm_num
  rw [hw]
  fin_cases h <;> fin_cases h' <;> rfl

end Cert.KernelIdeal.Ret

end
-- ==== Proof.RetBlock.lean ====
module

public import proofs.«01_k».proof.Proof.RetTables

@[expose] public section

set_option maxRecDepth 16384

/-!
The retention's part of the mixers' kernel at one grid point, element by element: the rotated queries and keys, the rows of the
output before the norm, the state the point leaves, and the finished columns.
-/

noncomputable section

namespace Cert.KernelIdeal.Ret

open Cert.KernelIdeal Cert.KernelIdeal.Gen Idealize.ShloMosaic Cert.Ret

theorem slt16 : ∀ d : Fin 32, IntOp.cmpi CmpIPredicate.slt (BitVec.ofNat 32 d.val) 16#32 = if d.val < 16 then 1#1 else 0#1 := by
  decide +kernel

/-- The lane sixteen above or below, as the two rotations and the choice between them read it. -/
theorem turned {α : Type} (f : Fin 128 → α) (h : Fin 4) (d : Fin 32) :
    Scalar.select (if d.val < 16 then 1#1 else 0#1)
        (f ⟨((at32 h d).val + 128 - 112) % 128, Nat.mod_lt _ (by decide)⟩) (f ⟨((at32 h d).val + 128 - 16) % 128, Nat.mod_lt _ (by decide)⟩)
      = if hd : d.val < 16 then f (at32 h ⟨d.val + 16, by omega⟩) else f (at32 h ⟨d.val - 16, by omega⟩) := by
  by_cases hd : d.val < 16
  · rw [if_pos hd, dif_pos hd]
    exact congrArg f (Fin.ext (by rw [at32_val]; show _ = h.val * 32 + (d.val + 16); simp only [at32_val]; omega))
  · rw [if_neg hd, dif_neg hd]
    exact congrArg f (Fin.ext (by rw [at32_val]; show _ = h.val * 32 + (d.val - 16); simp only [at32_val]; omega))

theorem q_apply (x : Vec Ideal S4x64x128 .f32) (cs sn : Vec Ideal S64x128 .f32) (b : Fin 4) (i : Fin 64) (h : Fin 4) (d : Fin 32) :
    k0_pay116 (F := Ideal) k0_pay44 x cs sn (ix3 b i (at32 h d))
      = rot (fun d => cs (ix2 i (at32 h d))) (fun d => sn (ix2 i (at32 h d))) (fun d => x (ix3 b i (at32 h d))) d := by
  pointwise [k0_pay116, k0_pay44]
  rw [rem32, at32_mod, slt16]
  unfold rot
  exact congrArg (fun w => x (ix3 b i (at32 h d)) * cs (ix2 i (at32 h d)) + w * sn (ix2 i (at32 h d))) (turned (fun l => x (ix3 b i l)) h d)

theorem k_apply (x : Vec Ideal S4x64x128 .f32) (cs sn : Vec Ideal S64x128 .f32) (b : Fin 4) (i : Fin 64) (h : Fin 4) (d : Fin 32) :
    k0_pay119 (F := Ideal) (k0_pay117 x) (k0_pay118 k0_pay44 x) cs sn (ix3 b i (at32 h d))
      = rot (fun d => cs (ix2 i (at32 h d))) (fun d => sn (ix2 i (at32 h d))) (fun d => x (ix3 b i (at32 h d))) d
        * Ideal.ofBits .f32 0x3E3504F3#32 := by
  pointwise [k0_pay119, k0_pay118, k0_pay117, k0_pay44]
  rw [rem32, at32_mod, slt16]
  unfold rot
  exact congrArg (fun w => (x (ix3 b i (at32 h d)) * cs (ix2 i (at32 h d)) + w * sn (ix2 i (at32 h d))) * Ideal.ofBits .f32 0x3E3504F3#32)
    (turned (fun l => x (ix3 b i l)) h d)

/-- Which of four stacked blocks of 64 rows a row lies in. -/
theorem pick64 {α : Type} (h : Fin 4) (m : Fin 64) (A B C D : Fin 64 → α) :
    (if h1 : (at64 h m).val < 64 then A ⟨(at64 h m).val, h1⟩
      else if h2 : (at64 h m).val - 64 < 64 then B ⟨(at64 h m).val - 64, h2⟩
      else if h3 : (at64 h m).val - 64 - 64 < 64 then C ⟨(at64 h m).val - 64 - 64, h3⟩
      else D ⟨(at64 h m).val - 64 - 64 - 64, by omega⟩)
      = if h = 0 then A m else if h = 1 then B m else if h = 2 then C m else D m := by
  fin_cases h
  · refine (dif_pos (by rw [at64_val]; show 0 * 64 + m.val < 64; omega)).trans (congrArg A (Fin.ext ?_))
    simp only [at64_val]; omega
  · refine (dif_neg (by rw [at64_val]; show ¬ 1 * 64 + m.val < 64; omega)).trans
      ((dif_pos (by rw [at64_val]; show 1 * 64 + m.val - 64 < 64; omega)).trans (congrArg B (Fin.ext ?_)))
    simp only [at64_val]; omega
  · refine (dif_neg (by rw [at64_val]; show ¬ 2 * 64 + m.val < 64; omega)).trans
      ((dif_neg (by rw [at64_val]; show ¬ 2 * 64 + m.val - 64 < 64; omega)).trans
        ((dif_pos (by rw [at64_val]; show 2 * 64 + m.val - 64 - 64 < 64; omega)).trans (congrArg C (Fin.ext ?_))))
    simp only [at64_val]; omega
  · refine (dif_neg (by rw [at64_val]; show ¬ 3 * 64 + m.val < 64; omega)).trans
      ((dif_neg (by rw [at64_val]; show ¬ 3 * 64 + m.val - 64 < 64; omega)).trans
        ((dif_neg (by rw [at64_val]; show ¬ 3 * 64 + m.val - 64 - 64 < 64; omega)).trans (congrArg D (Fin.ext ?_))))
    simp only [at64_val]; omega

theorem scores_apply (q k : FVec Ideal S4x64x128 .bf16) (b : Fin 4) (i : Fin 64) (h : Fin 4) (m : Fin 64) :
    k0_pay125 tIntra q k k0_pay123 k0_pay124 (Scalar.ofBits .bf16 0x0000#16) (ix3 b i (at64 h m))
      = (∑ d, q (ix3 b i (at32 h d)) * k (ix3 b m (at32 h d))) * dIntra h i m := by
  pointwise [k0_pay125, k0_pay123, k0_pay124]
  simp only [quot32, sel_eq]
  rw [tIntra_apply]
  refine congrArg (· * dIntra h i m) ?_
  refine (Finset.sum_congr rfl fun x _ => congrArg (q (ix3 b i x) * ·)
    (pick64 h m (fun r => if BitVec.ofNat 32 (x.val / 32) = 0#32 then k (ix3 b r x) else 0)
      (fun r => if BitVec.ofNat 32 (x.val / 32) = 1#32 then k (ix3 b r x) else 0)
      (fun r => if BitVec.ofNat 32 (x.val / 32) = 2#32 then k (ix3 b r x) else 0)
      (fun r => if BitVec.ofNat 32 (x.val / 32) = 3#32 then k (ix3 b r x) else 0))).trans ?_
  rw [sum32 _ h]
  · refine Finset.sum_congr rfl fun d _ => ?_
    simp only [at32_div]
    fin_cases h <;> simp
  · intro h' d hh
    simp only [at32_div]
    fin_cases h <;> fin_cases h' <;> simp at hh ⊢

theorem y_apply (qs : FVec Ideal S64x128 .f32) (q : FVec Ideal S4x64x128 .f32) (sc v : FVec Ideal S4x64x256 .bf16)
    (S : Vec Ideal S4x128x256 .f32) (b : Fin 4) (i : Fin 64) (h : Fin 4) (e : Fin 64) :
    k0_pay130 qs q sc v k0_pay127 k0_pay128 k0_pay129 S (ix3 b i (at64 h e))
      = (∑ m, sc (ix3 b i (at64 h m)) * v (ix3 b m (at64 h e)))
        + ∑ x, (q (ix3 b i x) * qs (ix2 i x)) * S (ix3 b x (at64 h e)) := by
  pointwise [k0_pay130, k0_pay127, k0_pay128, k0_pay129]
  simp only [quot64, sel_eq]
  refine congrArg (· + ∑ x, (q (ix3 b i x) * qs (ix2 i x)) * S (ix3 b x (at64 h e))) ?_
  have hp := fun (h' : Fin 4) (m : Fin 64) => congrArg (sc (ix3 b i (at64 h' m)) * ·)
    (pick64 h' m (fun r => if BitVec.ofNat 32 ((at64 h e).val / 64) = 0#32 then v (ix3 b r (at64 h e)) else 0)
      (fun r => if BitVec.ofNat 32 ((at64 h e).val / 64) = 1#32 then v (ix3 b r (at64 h e)) else 0)
      (fun r => if BitVec.ofNat 32 ((at64 h e).val / 64) = 2#32 then v (ix3 b r (at64 h e)) else 0)
      (fun r => if BitVec.ofNat 32 ((at64 h e).val / 64) = 3#32 then v (ix3 b r (at64 h e)) else 0))
  rw [sum64 _ h]
  · refine Finset.sum_congr rfl fun m _ => (hp h m).trans ?_
    simp only [at64_div]
    fin_cases h <;> simp
  · intro h' m hh
    refine (hp h' m).trans ?_
    simp only [at64_div]
    fin_cases h <;> fin_cases h' <;> simp at hh ⊢

theorem s_apply (ks : FVec Ideal S64x128 .f32) (k : FVec Ideal S4x64x128 .f32) (v : FVec Ideal S4x64x256 .f32)
    (S : Vec Ideal S4x128x256 .f32) (b : Fin 4) (h : Fin 4) (d : Fin 32) (h' : Fin 4) (e : Fin 64) :
    k0_pay133 tHead k v (k0_pay131 tScale S) (k0_pay132 ks) (ix3 b (at32 h d) (at64 h' e))
      = S (ix3 b (at32 h d) (at64 h' e)) * gc h
        + if h = h' then ∑ i, (k (ix3 b i (at32 h d)) * ks (ix2 i (at32 h d))) * v (ix3 b i (at64 h' e)) else 0 := by
  pointwise [k0_pay133, k0_pay132, k0_pay131]
  rw [tScale_apply, tHead_apply]
  by_cases hh : h = h'
  · rw [if_pos hh, if_pos hh]; rfl
  · rw [if_neg hh, if_neg hh]; rfl

/-- Against the averaging matrix a row's sum is the head's mean. -/
theorem sum_tAvg (f : Fin 256 → EReal) (h : Fin 4) (e : Fin 64) :
    ∑ x, f x * tAvg (ix2 x (at64 h e)) = avg (fun e => f (at64 h e)) := by
  rw [sum64 _ h]
  · rw [← sum_avg]
    exact Finset.sum_congr rfl fun d _ => by rw [tAvg_apply, if_pos rfl]
  · intro h' d hh
    rw [tAvg_apply, if_neg hh, mul_zero]

theorem out_apply (y : FVec Ideal S4x64x256 .f32) (g bt : Vec Ideal S1x256 .f32) (gate : Vec Ideal S4x64x256 .f32)
    (b : Fin 4) (i : Fin 64) (h : Fin 4) (e : Fin 64) :
    k0_pay164 tAvg y g bt gate (ix3 b i (at64 h e))
      = (gnorm (fun e => y (ix3 b i (at64 h e))) e * g (ix2 0 (at64 h e)) + bt (ix2 0 (at64 h e)))
        * (gate (ix3 b i (at64 h e)) * Ideal.logistic (gate (ix3 b i (at64 h e)))) := by
  pointwise [k0_pay164]
  simp only [sum_tAvg]
  rfl

end Cert.KernelIdeal.Ret

end
-- ==== Proof.RetPoint.lean ====
module

public import proofs.«01_k».proof.Proof.MixersOuts
public import proofs.«01_k».proof.Proof.RetBlock
public import Idealize.ShloMosaic.Lib.Pipeline.ReadBack
import Idealize.ShloMosaic.Lib.WritesUnit

@[expose] public section

set_option maxRecDepth 16384
set_option maxHeartbeats 4000000

/-!
What one grid point of the mixers' kernel leaves of the retention: its carried state, and its columns of the output block, out
of the blocks the point is given and the state the point before left.
-/

noncomputable section

namespace Cert.Mixers

open Cert.KernelIdeal Cert.KernelIdeal.Gen Cert.KernelIdeal.Ret
open Idealize.ShloMosaic Idealize.ShloMosaic.TcCoe Idealize.ShloMosaic.Tactic

/-- The queries' columns of the point's block. -/
def ldQ (x : Vec Ideal S4x64x768 .f32) : Vec Ideal S4x64x128 .f32 :=
  View.ld x (Rect.unit (s := S4x64x768) ![0, 0, 0] S4x64x128.size inb_S4x64x768_S4x64x128_0_0_0)

/-- The keys' columns of the point's block. -/
def ldK (x : Vec Ideal S4x64x768 .f32) : Vec Ideal S4x64x128 .f32 :=
  View.ld x (Rect.unit (s := S4x64x768) ![0, 0, 128] S4x64x128.size inb_S4x64x768_S4x64x128_0_0_128)

/-- The values' columns of the point's block. -/
def ldV (x : Vec Ideal S4x64x768 .f32) : Vec Ideal S4x64x256 .f32 :=
  View.ld x (Rect.unit (s := S4x64x768) ![0, 0, 256] S4x64x256.size inb_S4x64x768_S4x64x256_0_0_256)

/-- The gates' columns of the point's block. -/
def ldG (x : Vec Ideal S4x64x768 .f32) : Vec Ideal S4x64x256 .f32 :=
  View.ld x (Rect.unit (s := S4x64x768) ![0, 0, 512] S4x64x256.size inb_S4x64x768_S4x64x256_0_0_512)

/-- The rotated queries. -/
def qOf (x : Vec Ideal S4x64x768 .f32) (cs sn : Vec Ideal S64x128 .f32) : FVec Ideal S4x64x128 .f32 :=
  k0_pay116 k0_pay44 (ldQ x) cs sn

/-- The rotated and scaled keys. -/
def kOf (x : Vec Ideal S4x64x768 .f32) (cs sn : Vec Ideal S64x128 .f32) : FVec Ideal S4x64x128 .f32 :=
  k0_pay119 (k0_pay117 (ldK x)) (k0_pay118 k0_pay44 (ldK x)) cs sn

/-- The state a point leaves, over the state `S` it is entered with. -/
def stateOf (x : Vec Ideal S4x64x768 .f32) (cs sn : Vec Ideal S64x128 .f32) (S : Vec Ideal S4x128x256 .f32) : Vec Ideal S4x128x256 .f32 :=
  k0_pay133 tHead (kOf x cs sn) (k0_pay120 (ldV x)) (k0_pay131 tScale S) (k0_pay132 (k0_pay58 k0_pay52 tLog))

/-- The retention's rows at a point before the norm. -/
def yOf (x : Vec Ideal S4x64x768 .f32) (cs sn : Vec Ideal S64x128 .f32) (S : Vec Ideal S4x128x256 .f32) : FVec Ideal S4x64x256 .f32 :=
  k0_pay130 (k0_pay57 k0_pay52 tLog (Scalar.ofBits .f32 0x3F800000#32)) (qOf x cs sn)
    (k0_pay125 tIntra (k0_pay121 (qOf x cs sn)) (k0_pay122 (k0_pay117 (ldK x)) (k0_pay118 k0_pay44 (ldK x)) cs sn) k0_pay123 k0_pay124
      (Scalar.ofBits .bf16 0x0000#16))
    (k0_pay126 (k0_pay120 (ldV x))) k0_pay127 k0_pay128 k0_pay129 S

/-- The retention's columns of the point's output block. -/
def colsOf (x : Vec Ideal S4x64x768 .f32) (cs sn : Vec Ideal S64x128 .f32) (g b : Vec Ideal S1x256 .f32)
    (S : Vec Ideal S4x128x256 .f32) : FVec Ideal S4x64x256 .bf16 :=
  k0_pay164 tAvg (yOf x cs sn S) g b (ldG x)

/-- The state before the first chunk. -/
def zeroState : Vec Ideal S4x128x256 .f32 :=
  shapeCast S4x128x256 (broadcast S4x128x256 (Scalar.ofBits (F := Ideal) .f32 0x00000000#32)) shapeCasts_S4x128x256_S4x128x256

theorem zeroState_apply (i : S4x128x256.Idx) : zeroState i = (0 : EReal) := by
  idx_vars i
  pointwise [zeroState]

section CaseA
variable (c : Dev nD) (i : grid0.Coords) (arg1 : Memref sig .tc .vmem S4x64x2176 .f32) (harg1 : arg1.IsWhole) (arg2 : Memref sig .tc .vmem S4x64x896 .f32) (harg2 : arg2.IsWhole) (arg3 : Memref sig .tc .vmem S4x64x768 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x896 .f32) (harg8 : arg8.IsWhole) (arg9 : Memref sig .tc .vmem S1x256 .f32) (harg9 : arg9.IsWhole) (arg10 : Memref sig .tc .vmem S32x256 .f32) (harg10 : arg10.IsWhole) (arg11 : Memref sig .tc .vmem S1x256 .f32) (harg11 : arg11.IsWhole) (arg12 : Memref sig .tc .vmem S32x256 .f32) (harg12 : arg12.IsWhole) (arg13 : Memref sig .tc .vmem S64x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S4x64x1024 .bf16) (harg23 : arg23.IsWhole) (arg24 : Memref sig .tc .vmem S4x72x1536 .f32) (harg24 : arg24.IsWhole) (arg25 : Memref sig .tc .vmem S16x128x128 .f32) (harg25 : arg25.IsWhole) (arg26 : Memref sig .tc .vmem S4x72x896 .f32) (harg26 : arg26.IsWhole) (arg27 : Memref sig .tc .vmem S8x128x128 .f32) (harg27 : arg27.IsWhole) (arg28 : Memref sig .tc .vmem S4x128x256 .f32) (harg28 : arg28.IsWhole) (hc0 : cond0_0 i)
  (x0 : Vec Ideal S4x64x2176 .f32) (x1 : Vec Ideal S4x64x896 .f32) (x2 : Vec Ideal S4x64x768 .f32) (x3 : Vec Ideal S4x1536 .f32) (x4 : Vec Ideal S1x128 .f32) (x5 : Vec Ideal S1x128 .f32) (x6 : Vec Ideal S1x128 .f32) (x7 : Vec Ideal S1x896 .f32) (x8 : Vec Ideal S1x256 .f32) (x9 : Vec Ideal S32x256 .f32) (x10 : Vec Ideal S1x256 .f32) (x11 : Vec Ideal S32x256 .f32) (x12 : Vec Ideal S64x256 .f32) (x13 : Vec Ideal S1x256 .f32) (x14 : Vec Ideal S1x256 .f32) (x15 : Vec Ideal S1x256 .f32) (x16 : Vec Ideal S1x256 .f32) (x17 : Vec Ideal S1x256 .f32) (x18 : Vec Ideal S64x128 .f32) (x19 : Vec Ideal S64x128 .f32) (x20 : Vec Ideal S1x256 .f32) (x21 : Vec Ideal S1x256 .f32)

theorem state_A : sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 = stateOf x2 x18 x19 zeroState := by
  unfold sout0_A_4
  frame_out
  rfl

theorem out_A (b : Fin 4) (r : Fin 64) (j : Fin 256) :
    out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 (ix3 b r ⟨768 + j.val, by omega⟩) = colsOf x2 x18 x19 x20 x21 zeroState (ix3 b r j) := by
  unfold out0_A_22
  frame_open
  refine (View.read_writes_cons_unit_of_not_mem _ _ _ _ _ _ rfl 2 (Or.inr (show 512 + 256 ≤ 768 + j.val by omega))).trans ?_
  refine (View.read_writes_cons_unit_of_not_mem _ _ _ _ _ _ rfl 2 (Or.inr (show 0 + 512 ≤ 768 + j.val by omega))).trans ?_
  refine (View.read_writes_cons_unit_of_mem _ _ _ _ _ _ (ix3 b r j) rfl (fun a => by
    fin_cases a
    · exact (Nat.zero_add _).symm
    · exact (Nat.zero_add _).symm
    · rfl)).trans ?_
  have hQ : View.readAt (Elt Ideal) arg3.view (Rect.unit (s := S4x64x768) ![0, 0, 0] S4x64x128.size inb_S4x64x768_S4x64x128_0_0_0).toLoadRect (harg3.unread x2) = ldQ x2 := by
    rw [View.readAt_eq_ld, Memref.IsWhole.read_unread]; rfl
  have hK : View.readAt (Elt Ideal) arg3.view (Rect.unit (s := S4x64x768) ![0, 0, 128] S4x64x128.size inb_S4x64x768_S4x64x128_0_0_128).toLoadRect (harg3.unread x2) = ldK x2 := by
    rw [View.readAt_eq_ld, Memref.IsWhole.read_unread]; rfl
  have hV : View.readAt (Elt Ideal) arg3.view (Rect.unit (s := S4x64x768) ![0, 0, 256] S4x64x256.size inb_S4x64x768_S4x64x256_0_0_256).toLoadRect (harg3.unread x2) = ldV x2 := by
    rw [View.readAt_eq_ld, Memref.IsWhole.read_unread]; rfl
  have hG : View.readAt (Elt Ideal) arg3.view (Rect.unit (s := S4x64x768) ![0, 0, 512] S4x64x256.size inb_S4x64x768_S4x64x256_0_0_512).toLoadRect (harg3.unread x2) = ldG x2 := by
    rw [View.readAt_eq_ld, Memref.IsWhole.read_unread]; rfl
  have h19 : View.readAt (Elt Ideal) arg19.view (Rect.unit (s := S64x128) ![0, 0] S64x128.size inb_S64x128_S64x128_0_0).toLoadRect (harg19.unread x18) = x18 := by
    rw [View.readAt_eq_ld, Memref.IsWhole.read_unread]; exact View.ld_unit_lit' _ _ (by decide)
  have h20 : View.readAt (Elt Ideal) arg20.view (Rect.unit (s := S64x128) ![0, 0] S64x128.size inb_S64x128_S64x128_0_0).toLoadRect (harg20.unread x19) = x19 := by
    rw [View.readAt_eq_ld, Memref.IsWhole.read_unread]; exact View.ld_unit_lit' _ _ (by decide)
  have h21 : View.readAt (Elt Ideal) arg21.view (Rect.unit (s := S1x256) ![0, 0] S1x256.size inb_S1x256_S1x256_0_0).toLoadRect (harg21.unread x20) = x20 := by
    rw [View.readAt_eq_ld, Memref.IsWhole.read_unread]; exact View.ld_unit_lit' _ _ (by decide)
  have h22 : View.readAt (Elt Ideal) arg22.view (Rect.unit (s := S1x256) ![0, 0] S1x256.size inb_S1x256_S1x256_0_0).toLoadRect (harg22.unread x21) = x21 := by
    rw [View.readAt_eq_ld, Memref.IsWhole.read_unread]; exact View.ld_unit_lit' _ _ (by decide)
  have hS : arg28.view.readCov [(⟨Rect.unit (s := S4x128x256) ![0, 0, 0] S4x128x256.size inb_S4x128x256_S4x128x256_0_0_0, zeroState⟩ : View.Piece (Elt Ideal) S4x128x256 .f32)]
      (Rect.unit (s := S4x128x256) ![0, 0, 0] S4x128x256.size inb_S4x128x256_S4x128x256_0_0_0).toLoadRect = zeroState := by
    simp (disch := decide) only [View.canon_cons_unit_lit', View.ld_unit_lit', View.readCov_unit_lit', View.readCov_cons_unit_lit']
  unfold zeroState at hS
  rw [hQ, hK, hV, hG, h19, h20, h21, h22, hS]
  rfl

end CaseA

section CaseB
variable (c : Dev nD) (i : grid0.Coords) (arg1 : Memref sig .tc .vmem S4x64x2176 .f32) (harg1 : arg1.IsWhole) (arg2 : Memref sig .tc .vmem S4x64x896 .f32) (harg2 : arg2.IsWhole) (arg3 : Memref sig .tc .vmem S4x64x768 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x896 .f32) (harg8 : arg8.IsWhole) (arg9 : Memref sig .tc .vmem S1x256 .f32) (harg9 : arg9.IsWhole) (arg10 : Memref sig .tc .vmem S32x256 .f32) (harg10 : arg10.IsWhole) (arg11 : Memref sig .tc .vmem S1x256 .f32) (harg11 : arg11.IsWhole) (arg12 : Memref sig .tc .vmem S32x256 .f32) (harg12 : arg12.IsWhole) (arg13 : Memref sig .tc .vmem S64x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S64x128 .f32) (harg19 : arg19.IsWhole) (arg20 : Memref sig .tc .vmem S64x128 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S4x64x1024 .bf16) (harg23 : arg23.IsWhole) (arg24 : Memref sig .tc .vmem S4x72x1536 .f32) (harg24 : arg24.IsWhole) (arg25 : Memref sig .tc .vmem S16x128x128 .f32) (harg25 : arg25.IsWhole) (arg26 : Memref sig .tc .vmem S4x72x896 .f32) (harg26 : arg26.IsWhole) (arg27 : Memref sig .tc .vmem S8x128x128 .f32) (harg27 : arg27.IsWhole) (arg28 : Memref sig .tc .vmem S4x128x256 .f32) (harg28 : arg28.IsWhole) (hc0 : ¬cond0_0 i)
  (x0 : Vec Ideal S4x64x2176 .f32) (x1 : Vec Ideal S4x64x896 .f32) (x2 : Vec Ideal S4x64x768 .f32) (x3 : Vec Ideal S4x1536 .f32) (x4 : Vec Ideal S1x128 .f32) (x5 : Vec Ideal S1x128 .f32) (x6 : Vec Ideal S1x128 .f32) (x7 : Vec Ideal S1x896 .f32) (x8 : Vec Ideal S1x256 .f32) (x9 : Vec Ideal S32x256 .f32) (x10 : Vec Ideal S1x256 .f32) (x11 : Vec Ideal S32x256 .f32) (x12 : Vec Ideal S64x256 .f32) (x13 : Vec Ideal S1x256 .f32) (x14 : Vec Ideal S1x256 .f32) (x15 : Vec Ideal S1x256 .f32) (x16 : Vec Ideal S1x256 .f32) (x17 : Vec Ideal S1x256 .f32) (x18 : Vec Ideal S64x128 .f32) (x19 : Vec Ideal S64x128 .f32) (x20 : Vec Ideal S1x256 .f32) (x21 : Vec Ideal S1x256 .f32) (xs0 : Vec Ideal S4x72x1536 .f32) (xs1 : Vec Ideal S16x128x128 .f32) (xs2 : Vec Ideal S4x72x896 .f32) (xs3 : Vec Ideal S8x128x128 .f32) (xs4 : Vec Ideal S4x128x256 .f32)

theorem state_B : sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4 = stateOf x2 x18 x19 xs4 := by
  unfold sout0_B_4
  frame_out
  rfl

theorem out_B (b : Fin 4) (r : Fin 64) (j : Fin 256) :
    out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 x19 x20 x21 xs0 xs1 xs2 xs3 xs4 (ix3 b r ⟨768 + j.val, by omega⟩) = colsOf x2 x18 x19 x20 x21 xs4 (ix3 b r j) := by
  unfold out0_B_22
  frame_open
  refine (View.read_writes_cons_unit_of_not_mem _ _ _ _ _ _ rfl 2 (Or.inr (show 512 + 256 ≤ 768 + j.val by omega))).trans ?_
  refine (View.read_writes_cons_unit_of_not_mem _ _ _ _ _ _ rfl 2 (Or.inr (show 0 + 512 ≤ 768 + j.val by omega))).trans ?_
  refine (View.read_writes_cons_unit_of_mem _ _ _ _ _ _ (ix3 b r j) rfl (fun a => by
    fin_cases a
    · exact (Nat.zero_add _).symm
    · exact (Nat.zero_add _).symm
    · rfl)).trans ?_
  have hQ : View.readAt (Elt Ideal) arg3.view (Rect.unit (s := S4x64x768) ![0, 0, 0] S4x64x128.size inb_S4x64x768_S4x64x128_0_0_0).toLoadRect (harg3.unread x2) = ldQ x2 := by
    rw [View.readAt_eq_ld, Memref.IsWhole.read_unread]; rfl
  have hK : View.readAt (Elt Ideal) arg3.view (Rect.unit (s := S4x64x768) ![0, 0, 128] S4x64x128.size inb_S4x64x768_S4x64x128_0_0_128).toLoadRect (harg3.unread x2) = ldK x2 := by
    rw [View.readAt_eq_ld, Memref.IsWhole.read_unread]; rfl
  have hV : View.readAt (Elt Ideal) arg3.view (Rect.unit (s := S4x64x768) ![0, 0, 256] S4x64x256.size inb_S4x64x768_S4x64x256_0_0_256).toLoadRect (harg3.unread x2) = ldV x2 := by
    rw [View.readAt_eq_ld, Memref.IsWhole.read_unread]; rfl
  have hG : View.readAt (Elt Ideal) arg3.view (Rect.unit (s := S4x64x768) ![0, 0, 512] S4x64x256.size inb_S4x64x768_S4x64x256_0_0_512).toLoadRect (harg3.unread x2) = ldG x2 := by
    rw [View.readAt_eq_ld, Memref.IsWhole.read_unread]; rfl
  have h19 : View.readAt (Elt Ideal) arg19.view (Rect.unit (s := S64x128) ![0, 0] S64x128.size inb_S64x128_S64x128_0_0).toLoadRect (harg19.unread x18) = x18 := by
    rw [View.readAt_eq_ld, Memref.IsWhole.read_unread]; exact View.ld_unit_lit' _ _ (by decide)
  have h20 : View.readAt (Elt Ideal) arg20.view (Rect.unit (s := S64x128) ![0, 0] S64x128.size inb_S64x128_S64x128_0_0).toLoadRect (harg20.unread x19) = x19 := by
    rw [View.readAt_eq_ld, Memref.IsWhole.read_unread]; exact View.ld_unit_lit' _ _ (by decide)
  have h21 : View.readAt (Elt Ideal) arg21.view (Rect.unit (s := S1x256) ![0, 0] S1x256.size inb_S1x256_S1x256_0_0).toLoadRect (harg21.unread x20) = x20 := by
    rw [View.readAt_eq_ld, Memref.IsWhole.read_unread]; exact View.ld_unit_lit' _ _ (by decide)
  have h22 : View.readAt (Elt Ideal) arg22.view (Rect.unit (s := S1x256) ![0, 0] S1x256.size inb_S1x256_S1x256_0_0).toLoadRect (harg22.unread x21) = x21 := by
    rw [View.readAt_eq_ld, Memref.IsWhole.read_unread]; exact View.ld_unit_lit' _ _ (by decide)
  have hS : View.readAt (Elt Ideal) arg28.view (Rect.unit (s := S4x128x256) ![0, 0, 0] S4x128x256.size inb_S4x128x256_S4x128x256_0_0_0).toLoadRect (harg28.unread xs4) = xs4 := by
    rw [View.readAt_eq_ld, Memref.IsWhole.read_unread]; exact View.ld_unit_lit' _ _ (by decide)
  rw [hQ, hK, hV, hG, h19, h20, h21, h22, hS]
  rfl

end CaseB

end Cert.Mixers

end
-- ==== Proof.RetWhole.lean ====
module

public import proofs.«01_k».proof.Proof.RetSpec

@[expose] public section

/-!
The retention mixer of the whole call in extended reals: the angles of the rotation by row, the queries, keys, values and gates
of chunk `n` as they stand in the packed argument, the rows of every chunk and the normed, gated columns that go out.
-/

noncomputable section

namespace Cert.Ret

open Idealize.ShloMosaic

/-- Sixteen evenly spaced points from 0 to 1. -/
def lin (j : Fin 16) : EReal :=
  if j.val < 15 then
    0 * (1 - Ideal.div (FloatOps.sitofp (F := Ideal) FTy.f32 (BitVec.ofNat 32 j.val)) (Ideal.ofBits .f32 0x41700000#32))
      + Ideal.div (FloatOps.sitofp (F := Ideal) FTy.f32 (BitVec.ofNat 32 j.val)) (Ideal.ofBits .f32 0x41700000#32)
  else 1

/-- The angle by which row `p` turns its `j`-th pair. -/
def ang (p : ℕ) (j : Fin 16) : EReal :=
  FloatOps.sitofp (F := Ideal) FTy.f32 (BitVec.ofNat 32 p) * Ideal.div 1 (Ideal.pow (Ideal.ofBits .f32 0x461C4000#32) (lin j))

/-- The cosine of row `p` at column `d` of a head. -/
def cosAt (p : ℕ) (d : Fin 32) : EReal :=
  if h : d.val < 16 then Ideal.cos (ang p ⟨d.val, h⟩) else Ideal.cos (ang p ⟨d.val - 16, by omega⟩)

/-- The signed sine of row `p` at column `d` of a head. -/
def sinAt (p : ℕ) (d : Fin 32) : EReal :=
  if h : d.val < 16 then -Ideal.sin (ang p ⟨d.val, h⟩) else Ideal.sin (ang p ⟨d.val - 16, by omega⟩)

/-- Row `i` of chunk `n`. -/
def rowN (n : ℕ) (i : Fin 64) : Fin 8256 := ⟨(64 * n + i.val) % 8256, Nat.mod_lt _ (by decide)⟩

section
variable (X : Fin 4 → Fin 8256 → Fin 768 → EReal) (b : Fin 4) (h : Fin 4)

/-- The rotated queries of chunk `n`. -/
def qAt (n : ℕ) (i : Fin 64) (d : Fin 32) : EReal :=
  rot (cosAt (64 * n + i.val)) (sinAt (64 * n + i.val)) (fun d => X b (rowN n i) ⟨(at32 h d).val, by omega⟩) d

/-- The rotated and scaled keys of chunk `n`. -/
def kAt (n : ℕ) (i : Fin 64) (d : Fin 32) : EReal :=
  rot (cosAt (64 * n + i.val)) (sinAt (64 * n + i.val)) (fun d => X b (rowN n i) ⟨128 + (at32 h d).val, by omega⟩) d
    * Ideal.ofBits .f32 0x3E3504F3#32

/-- The values of chunk `n`. -/
def vAt (n : ℕ) (i : Fin 64) (e : Fin 64) : EReal := X b (rowN n i) ⟨256 + (at64 h e).val, by omega⟩

/-- The gates of chunk `n`. -/
def gAt (n : ℕ) (i : Fin 64) (e : Fin 64) : EReal := X b (rowN n i) ⟨512 + (at64 h e).val, by omega⟩

/-- The state chunk `n` is entered with. -/
def sAt (n : ℕ) : Fin 32 → Fin 64 → EReal := state h (kAt X b h) (vAt X b h) n

/-- The rows of chunk `n` before the norm. -/
def yAt (n : ℕ) (i : Fin 64) (e : Fin 64) : EReal := row h (qAt X b h n) (kAt X b h n) (vAt X b h n) (sAt X b h n) i e

/-- The columns of chunk `n` that go out. -/
def outAt (G B : Fin 256 → EReal) (n : ℕ) (i : Fin 64) (e : Fin 64) : EReal :=
  (gnorm (yAt X b h n i) e * G (at64 h e) + B (at64 h e)) * (gAt X b h n i e * Ideal.logistic (gAt X b h n i e))

theorem sAt_zero (d : Fin 32) (e : Fin 64) : sAt X b h 0 d e = 0 := rfl

theorem sAt_succ (n : ℕ) (d : Fin 32) (e : Fin 64) :
    sAt X b h (n + 1) d e = step h (kAt X b h n) (vAt X b h n) (sAt X b h n) d e := rfl
end

end Cert.Ret

end
-- ==== Proof.RetBlocks.lean ====
module

public import proofs.«01_k».proof.Proof.MixersFrame
public import proofs.«01_k».proof.Proof.RetPoint
public import proofs.«01_k».proof.Proof.RetWhole
public import Idealize.ShloMosaic.Lib.StableHlo.RunLoop
public import Idealize.ShloMosaic.Lib.StableHlo.RunRead

@[expose] public section

set_option maxRecDepth 100000
set_option maxHeartbeats 4000000

/-!
The blocks the mixers' kernel is given for the retention: a grid point's rows of the packed argument, its rows of the cosine and
sine tables, and the norm's scale and offset, element by element from the call's arguments.
-/

noncomputable section

namespace Cert.Mixers

open Cert.KernelIdeal Cert.KernelIdeal.Gen Cert.KernelIdeal.Ret Cert.Ret
open Idealize.ShloMosaic Idealize.ShloMosaic.TcCoe Idealize.ShloMosaic.Tactic

variable (m : (ℓ : Loc nD τ sig) → Buf (Elt Ideal) ℓ) (c : Dev nD)

theorem index2 : ∀ t, win0_2.index t = ![0, ((grid0.coords t 0).val + 128) % 129, 0] := by decide +kernel
theorem index18 : ∀ t, win0_18.index t = ![(grid0.coords t 0).val, 0] := by decide +kernel
theorem index19 : ∀ t, win0_19.index t = ![(grid0.coords t 0).val, 0] := by decide +kernel
theorem index20 : ∀ t, win0_20.index t = ![0, 0] := by decide +kernel
theorem index21 : ∀ t, win0_21.index t = ![0, 0] := by decide +kernel
theorem index22 : ∀ t, win0_22.index t = ![0, ((grid0.coords t 0).val + 128) % 129, 0] := by decide +kernel

theorem coord_val : ∀ t : Fin cfg0.N, (grid0.coords t 0).val = t.val := by decide +kernel

theorem V_eq (b : Ref sig .tc) : V m c b = StableHlo.after hostOps0_2 (StableHlo.after hostOps0_1 (StableHlo.after hostOps0 (fun b => m (c, b)))) (Proc.devRef .tc b) := by
  unfold V
  rw [← StableHlo.afterL_eq_after_flatten]
  rfl

theorem read20 (t : Fin cfg0.N) (j : Fin 256) : iblk m c 20 t (ix2 0 j) = V m c main_v53 (ix2 0 j) := by
  blk_ext [iblk, index20 t]

theorem at53 (j : Fin 256) : V m c main_v53 (ix2 0 j) = m ((c : Thread nD τ).loc main_arg18) (ix1 j) := by
  rw [V_eq]
  after_reads_simp
  pointwise

theorem at54 (j : Fin 256) : V m c main_v54 (ix2 0 j) = m ((c : Thread nD τ).loc main_arg19) (ix1 j) := by
  rw [V_eq]
  after_reads_simp
  pointwise

theorem at33 (b : Fin 4) (p : Fin 8256) (j : Fin 768) :
    V m c main_v33 (ix3 b p j) = m ((c : Thread nD τ).loc main_arg2) (ix3 b ⟨(64 + p.val) % 8256, Nat.mod_lt _ (by decide)⟩ j) := by
  rw [V_eq]
  after_reads_simp
  pointwise
  split
  · congr 2
    exact Fin.ext (by show 64 + p.val = (64 + p.val) % 8256; omega)
  · congr 2
    exact Fin.ext (by show p.val - 8192 = (64 + p.val) % 8256; omega)

theorem at0 (j : Fin 16) : V m c main_v0 (ix1 j) = lin j := by
  rw [V_eq]
  after_reads_simp
  simp only [StableHlo.TRef.toBuf, StableHlo.TRef.ofBuf, cast_eq]
  pointwise
  after_reads_simp
  simp only [StableHlo.TRef.toBuf, StableHlo.TRef.ofBuf, cast_eq, id]
  pointwise
  unfold lin
  rfl

theorem at11 (p : Fin 8256) (j : Fin 16) : V m c main_v11 (ix2 p j) = Ideal.cos (ang p.val j) := by
  unfold ang
  rw [← at0 m c, V_eq, V_eq]
  after_reads_simp
  pointwise

theorem at12 (p : Fin 8256) (j : Fin 16) : V m c main_v12 (ix2 p j) = Ideal.sin (ang p.val j) := by
  unfold ang
  rw [← at0 m c, V_eq, V_eq]
  after_reads_simp
  pointwise

theorem at16 (p : Fin 8256) (h : Fin 4) (d : Fin 32) : V m c main_v16 (ix2 p (at32 h d)) = cosAt p.val d := by
  have e := at32_mod h d
  by_cases hd : d.val < 16
  · rw [cosAt, dif_pos hd, ← at11 m c, V_eq, V_eq]
    after_reads_simp
    pointwise
    after_reads_simp
    pointwise
    simp only [e]
    rw [dif_pos hd]
  · rw [cosAt, dif_neg hd, ← at11 m c, V_eq, V_eq]
    after_reads_simp
    pointwise
    after_reads_simp
    pointwise
    simp only [e]
    rw [dif_neg hd]

theorem at21 (p : Fin 8256) (h : Fin 4) (d : Fin 32) : V m c main_v21 (ix2 p (at32 h d)) = sinAt p.val d := by
  have e := at32_mod h d
  by_cases hd : d.val < 16
  · rw [sinAt, dif_pos hd, ← at12 m c, V_eq, V_eq]
    after_reads_simp
    pointwise
    after_reads_simp
    pointwise
    simp only [e]
    rw [dif_pos hd]
  · rw [sinAt, dif_neg hd, ← at12 m c, V_eq, V_eq]
    after_reads_simp
    pointwise
    after_reads_simp
    pointwise
    simp only [e]
    rw [dif_neg hd]

theorem read21 (t : Fin cfg0.N) (j : Fin 256) : iblk m c 21 t (ix2 0 j) = V m c main_v54 (ix2 0 j) := by
  blk_ext [iblk, index21 t]

theorem read18 (t : Fin cfg0.N) (i : Fin 64) (j : Fin 128) :
    iblk m c 18 t (ix2 i j) = V m c main_v16 (ix2 ⟨64 * t.val + i.val, by have : t.val < 129 := t.isLt; omega⟩ j) := by
  blk_ext [iblk, index18 t, coord_val t]

theorem read19 (t : Fin cfg0.N) (i : Fin 64) (j : Fin 128) :
    iblk m c 19 t (ix2 i j) = V m c main_v21 (ix2 ⟨64 * t.val + i.val, by have : t.val < 129 := t.isLt; omega⟩ j) := by
  blk_ext [iblk, index19 t, coord_val t]

theorem read2 (t : Fin cfg0.N) (b : Fin 4) (i : Fin 64) (j : Fin 768) :
    iblk m c 2 t (ix3 b i j)
      = V m c main_v33 (ix3 b ⟨64 * ((t.val + 128) % 129) + i.val, by have : t.val < 129 := t.isLt; omega⟩ j) := by
  blk_ext [iblk, index2 t, coord_val t]

/-- The packed argument. -/
def argX (b : Fin 4) (r : Fin 8256) (j : Fin 768) : EReal := m ((c : Thread nD τ).loc main_arg2) (ix3 b r j)
/-- The norm's scale. -/
def argG (j : Fin 256) : EReal := m ((c : Thread nD τ).loc main_arg18) (ix1 j)
/-- The norm's offset. -/
def argB (j : Fin 256) : EReal := m ((c : Thread nD τ).loc main_arg19) (ix1 j)

theorem blk2 (t : Fin cfg0.N) (b : Fin 4) (i : Fin 64) (j : Fin 768) : iblk m c 2 t (ix3 b i j) = argX m c b (rowN t.val i) j := by
  rw [read2, at33]
  unfold argX rowN
  congr 2
  exact Fin.ext (by have : t.val < 129 := t.isLt; show (64 + (64 * ((t.val + 128) % 129) + i.val)) % 8256 = (64 * t.val + i.val) % 8256; omega)

theorem blk18 (t : Fin cfg0.N) (i : Fin 64) (h : Fin 4) (d : Fin 32) : iblk m c 18 t (ix2 i (at32 h d)) = cosAt (64 * t.val + i.val) d := by
  rw [read18, at16]

theorem blk19 (t : Fin cfg0.N) (i : Fin 64) (h : Fin 4) (d : Fin 32) : iblk m c 19 t (ix2 i (at32 h d)) = sinAt (64 * t.val + i.val) d := by
  rw [read19, at21]

theorem blk20 (t : Fin cfg0.N) (j : Fin 256) : iblk m c 20 t (ix2 0 j) = argG m c j := by rw [read20, at53]; rfl

theorem blk21 (t : Fin cfg0.N) (j : Fin 256) : iblk m c 21 t (ix2 0 j) = argB m c j := by rw [read21, at54]; rfl

end Cert.Mixers
end
-- ==== Proof.RetArray.lean ====
module

public import proofs.«01_k».proof.Proof.RetBlocks

@[expose] public section

set_option maxRecDepth 100000
set_option maxHeartbeats 4000000

/-!
The retention's columns of the mixers' result: the state every grid point is entered with, by induction over the points, and
the columns each point writes.
-/

noncomputable section

namespace Cert.Mixers

open Cert.KernelIdeal Cert.KernelIdeal.Gen Cert.KernelIdeal.Ret Cert.Ret
open Idealize.ShloMosaic Idealize.ShloMosaic.TcCoe Idealize.ShloMosaic.Tactic

section
variable (X : Fin 4 → Fin 8256 → Fin 768 → EReal) (n : ℕ)
variable (x : Vec Ideal S4x64x768 .f32) (cs sn : Vec Ideal S64x128 .f32) (g bt : Vec Ideal S1x256 .f32) (S : Vec Ideal S4x128x256 .f32)
variable (hx : ∀ b i j, x (ix3 b i j) = X b (rowN n i) j)
variable (hc : ∀ i h d, cs (ix2 i (at32 h d)) = cosAt (64 * n + i.val) d)
variable (hs : ∀ i h d, sn (ix2 i (at32 h d)) = sinAt (64 * n + i.val) d)
variable (hS : ∀ b h d h' e, S (ix3 b (at32 h d) (at64 h' e)) = if h = h' then sAt X b h n d e else 0)

include hx in
theorem ldQ_apply (b : Fin 4) (i : Fin 64) (h : Fin 4) (d : Fin 32) :
    ldQ x (ix3 b i (at32 h d)) = X b (rowN n i) ⟨(at32 h d).val, by omega⟩ := by
  rw [← hx]
  pointwise [ldQ]

include hx in
theorem ldK_apply (b : Fin 4) (i : Fin 64) (h : Fin 4) (d : Fin 32) :
    ldK x (ix3 b i (at32 h d)) = X b (rowN n i) ⟨128 + (at32 h d).val, by omega⟩ := by
  rw [← hx]
  pointwise [ldK]

include hx in
theorem ldV_apply (b : Fin 4) (i : Fin 64) (h : Fin 4) (e : Fin 64) : ldV x (ix3 b i (at64 h e)) = vAt X b h n i e := by
  unfold vAt
  rw [← hx]
  pointwise [ldV]

include hx in
theorem ldG_apply (b : Fin 4) (i : Fin 64) (h : Fin 4) (e : Fin 64) : ldG x (ix3 b i (at64 h e)) = gAt X b h n i e := by
  unfold gAt
  rw [← hx]
  pointwise [ldG]

include hx hc hs in
theorem qOf_apply (b : Fin 4) (i : Fin 64) (h : Fin 4) (d : Fin 32) : qOf x cs sn (ix3 b i (at32 h d)) = qAt X b h n i d := by
  unfold qOf qAt
  rw [q_apply]
  simp only [ldQ_apply X n x hx, hc, hs]

include hx hc hs in
theorem kOf_apply (b : Fin 4) (i : Fin 64) (h : Fin 4) (d : Fin 32) : kOf x cs sn (ix3 b i (at32 h d)) = kAt X b h n i d := by
  unfold kOf kAt
  rw [k_apply]
  simp only [ldK_apply X n x hx, hc, hs]

include hx hc hs hS in
theorem stateOf_apply (b h : Fin 4) (d : Fin 32) (h' : Fin 4) (e : Fin 64) :
    stateOf x cs sn S (ix3 b (at32 h d) (at64 h' e)) = if h = h' then sAt X b h (n + 1) d e else 0 := by
  unfold stateOf
  rw [s_apply, hS]
  by_cases hh : h = h'
  · subst hh
    rw [if_pos rfl, if_pos rfl, if_pos rfl, sAt_succ]
    unfold step
    congr 1
    refine Finset.sum_congr rfl fun i _ => ?_
    rw [kOf_apply X n x cs sn hx hc hs, kScale_apply]
    congr 1
    pointwise [k0_pay120]
    pointwise [k0_pay120]
    pointwise [k0_pay120]
    exact ldV_apply X n x hx b i h e
  · rw [if_neg hh, if_neg hh, if_neg hh, zero_mul, zero_add]

include hx hc hs hS in
theorem yOf_apply (b : Fin 4) (i : Fin 64) (h : Fin 4) (e : Fin 64) : yOf x cs sn S (ix3 b i (at64 h e)) = yAt X b h n i e := by
  unfold yOf
  rw [y_apply, sum32 _ h (fun h' d hne => by rw [hS, if_neg hne, mul_zero])]
  unfold yAt row
  congr 1
  · refine Finset.sum_congr rfl fun m _ => ?_
    rw [scores_apply]
    congr 1
    · congr 1
      refine Finset.sum_congr rfl fun d _ => ?_
      congr 1
      · exact qOf_apply X n x cs sn hx hc hs b i h d
      · exact kOf_apply X n x cs sn hx hc hs b m h d
    · pointwise [k0_pay126, k0_pay120]
      exact ldV_apply X n x hx b m h e
  · refine Finset.sum_congr rfl fun d _ => ?_
    rw [hS, if_pos rfl, qOf_apply X n x cs sn hx hc hs, qScale_apply]

include hx hc hs hS in
theorem colsOf_apply (G B : Fin 256 → EReal) (hg : ∀ j, g (ix2 0 j) = G j) (hb : ∀ j, bt (ix2 0 j) = B j)
    (b : Fin 4) (i : Fin 64) (h : Fin 4) (e : Fin 64) : colsOf x cs sn g bt S (ix3 b i (at64 h e)) = outAt X b h G B n i e := by
  unfold colsOf
  rw [out_apply, hg, hb, ldG_apply X n x hx]
  simp only [yOf_apply X n x cs sn S hx hc hs hS]
  rfl
end

variable (m : (ℓ : Loc nD τ sig) → Buf (Elt Ideal) ℓ) (c : Dev nD)

theorem pointA_state (t : Fin cfg0.N) (h0 : t.val % 129 = 0) :
    (pointA m c t h0).2.2.2.2.2 = stateOf (iblk m c 2 t) (iblk m c 18 t) (iblk m c 19 t) zeroState := by
  unfold pointA
  dsimp only
  rw [state_A]

theorem pointB_state (t : Fin cfg0.N) (h0 : ¬t.val % 129 = 0) (xs : Vec Ideal S4x72x1536 .f32 × Vec Ideal S16x128x128 .f32 × Vec Ideal S4x72x896 .f32 × Vec Ideal S8x128x128 .f32 × Vec Ideal S4x128x256 .f32) :
    (pointB m c t h0 xs).2.2.2.2.2 = stateOf (iblk m c 2 t) (iblk m c 18 t) (iblk m c 19 t) xs.2.2.2.2 := by
  unfold pointB
  dsimp only
  rw [state_B]

theorem pointA_out (t : Fin cfg0.N) (h0 : t.val % 129 = 0) (b : Fin 4) (r : Fin 64) (j : Fin 256) :
    (pointA m c t h0).1 (ix3 b r ⟨768 + j.val, by omega⟩)
      = colsOf (iblk m c 2 t) (iblk m c 18 t) (iblk m c 19 t) (iblk m c 20 t) (iblk m c 21 t) zeroState (ix3 b r j) := by
  unfold pointA
  dsimp only
  rw [out_A]

theorem pointB_out (t : Fin cfg0.N) (h0 : ¬t.val % 129 = 0) (xs : Vec Ideal S4x72x1536 .f32 × Vec Ideal S16x128x128 .f32 × Vec Ideal S4x72x896 .f32 × Vec Ideal S8x128x128 .f32 × Vec Ideal S4x128x256 .f32)
    (b : Fin 4) (r : Fin 64) (j : Fin 256) :
    (pointB m c t h0 xs).1 (ix3 b r ⟨768 + j.val, by omega⟩)
      = colsOf (iblk m c 2 t) (iblk m c 18 t) (iblk m c 19 t) (iblk m c 20 t) (iblk m c 21 t) xs.2.2.2.2 (ix3 b r j) := by
  unfold pointB
  dsimp only
  rw [out_B]

theorem state_point (k : ℕ) (hk : k < cfg0.N) (b h : Fin 4) (d : Fin 32) (h' : Fin 4) (e : Fin 64) :
    (outsAt0 m c k hk).2.2.2.2.2 (ix3 b (at32 h d) (at64 h' e)) = if h = h' then sAt (argX m c) b h (k + 1) d e else 0 := by
  induction k generalizing b h d h' e with
  | zero =>
    rw [show outsAt0 m c 0 hk = pointA m c ⟨0, hk⟩ (Nat.zero_mod _) from outsAt0_A m c ⟨0, hk⟩ (Nat.zero_mod _), pointA_state]
    refine stateOf_apply (argX m c) 0 _ _ _ _ (blk2 m c ⟨0, hk⟩) (blk18 m c ⟨0, hk⟩) (blk19 m c ⟨0, hk⟩) (fun b h d h' e => ?_) b h d h' e
    rw [zeroState_apply, sAt_zero, ite_self]
  | succ k ih =>
    have h0 : ¬(k + 1) % 129 = 0 := by have : k + 1 < 129 := hk; omega
    rw [show outsAt0 m c (k + 1) hk = pointB m c ⟨k + 1, hk⟩ h0 (outsAt0 m c k (by omega)).2 from outsAt0_B m c ⟨k + 1, hk⟩ h0, pointB_state]
    exact stateOf_apply (argX m c) (k + 1) _ _ _ _ (blk2 m c ⟨k + 1, hk⟩) (blk18 m c ⟨k + 1, hk⟩) (blk19 m c ⟨k + 1, hk⟩)
      (fun b h d h' e => ih (by omega) b h d h' e) b h d h' e

theorem out_point (t : Fin cfg0.N) (b : Fin 4) (i : Fin 64) (h : Fin 4) (e : Fin 64) :
    (outsAt0 m c t.val t.isLt).1 (ix3 b i ⟨768 + (at64 h e).val, by omega⟩)
      = outAt (argX m c) b h (argG m c) (argB m c) t.val i e := by
  by_cases h0 : t.val % 129 = 0
  · rw [outsAt0_A m c t h0, pointA_out]
    have ht : t.val = 0 := by have : t.val < 129 := t.isLt; omega
    refine colsOf_apply (argX m c) t.val _ _ _ _ _ _ (blk2 m c t) (blk18 m c t) (blk19 m c t) (fun b h d h' e => ?_) _ _
      (blk20 m c t) (blk21 m c t) b i h e
    rw [zeroState_apply, ht, sAt_zero, ite_self]
  · rw [outsAt0_B m c t h0, pointB_out]
    refine colsOf_apply (argX m c) t.val _ _ _ _ _ _ (blk2 m c t) (blk18 m c t) (blk19 m c t) (fun b h d h' e => ?_) _ _
      (blk20 m c t) (blk21 m c t) b i h e
    have hp : t.val - 1 + 1 = t.val := by have : t.val ≠ 0 := fun h => h0 (by rw [h]); omega
    have := state_point m c (t.val - 1) (Nat.lt_of_le_of_lt (Nat.sub_le _ _) t.isLt) b h d h' e
    rwa [hp] at this

theorem idx_inj22 (t t' : Fin cfg0.N) (h : win0_22.index t = win0_22.index t') : t = t' := by
  have h1 := congrFun h 1
  rw [index22 t, index22 t', coord_val, coord_val] at h1
  have h1 : (t.val + 128) % 129 = (t'.val + 128) % 129 := h1
  have : t.val < 129 := t.isLt
  have : t'.val < 129 := t'.isLt
  exact Fin.ext (by omega)

theorem disjoint22 (t t' : Fin cfg0.N) (_ : (cfg0.win 22).flush t = true) (_ : (cfg0.win 22).flush t' = true) (hne : t ≠ t') :
    Disjoint ((cfg0.win 22).blk t).view.set ((cfg0.win 22).blk t').view.set :=
  (cfg0.win 22).disjoint_blk fun h => hne (idx_inj22 t t' h)

theorem flush22 : ∀ t : Fin cfg0.N, (cfg0.win 22).flush t = true := by decide +kernel

theorem final22 (t : Fin cfg0.N) (b : Fin 4) (i : Fin 64) (h : Fin 4) (e : Fin 64) :
    (dats m 0 c).arrAt 22 cfg0.N (ix3 b ⟨64 * ((t.val + 128) % 129) + i.val, by have : t.val < 129 := t.isLt; omega⟩ ⟨768 + (at64 h e).val, by omega⟩)
      = outAt (argX m c) b h (argG m c) (argB m c) t.val i e := by
  have hr := congrFun ((dats m 0 c).read_blk_arrAt_eq_flushed 22 disjoint22 cfg0.N t t.isLt (flush22 t)) (ix3 b i ⟨768 + (at64 h e).val, by omega⟩)
  rw [← out_point m c t b i h e]
  refine Eq.trans ?_ (hr.trans ?_)
  · blk_ext [index22 t, coord_val t]
  · rw [← after0_22]
    rfl

end Cert.Mixers
end
-- ==== Proof.RetRefEntry.lean ====
module

public import proofs.«01_k».proof.Proof.RetRefFrame
public import proofs.«01_k».proof.Proof.RetWhole
public import Idealize.ShloMosaic.Lib.StableHlo.RunLoop
public import Idealize.ShloMosaic.Lib.StableHlo.RunRead
public import Idealize.ShloMosaic.Lib.Pipeline.ReadBack

@[expose] public section

set_option maxRecDepth 100000
set_option maxHeartbeats 4000000

/-!
The retention of the reference before its loop over the chunks, stretch by stretch and from any contents: the linspace, the
rotated queries and keys, the values, and the table of weights inside a chunk.
-/

noncomputable section

namespace Cert.ReferenceIdeal.Ret

open Cert.ReferenceIdeal Cert.ReferenceIdeal.Gen Cert.ReferenceIdeal.Value Cert.Ret
open Idealize.ShloMosaic Idealize.ShloMosaic.TcCoe Idealize.ShloMosaic.Tactic Idealize.ShloMosaic.StableHlo

variable (U : Valuation τ sig (Elt Ideal))

/-- A pair's first column turned, as a difference, is the sum with the sine's sign changed. -/
theorem rot_of (x c s : Fin 32 → EReal) (cc ss : Fin 16 → EReal)
    (hc : ∀ d, c d = if h : d.val < 16 then cc ⟨d.val, h⟩ else cc ⟨d.val - 16, by omega⟩)
    (hs : ∀ d, s d = if h : d.val < 16 then -ss ⟨d.val, h⟩ else ss ⟨d.val - 16, by omega⟩) (d : Fin 32) :
    (if h : d.val < 16 then x ⟨d.val, by omega⟩ * cc ⟨d.val, h⟩ - x ⟨16 + d.val, by omega⟩ * ss ⟨d.val, h⟩
      else x ⟨d.val - 16, by omega⟩ * ss ⟨d.val - 16, by omega⟩ + x ⟨16 + (d.val - 16), by omega⟩ * cc ⟨d.val - 16, by omega⟩)
      = rot c s x d := by
  unfold rot
  rw [hc, hs]
  by_cases h : d.val < 16
  · simp only [dif_pos h]
    rw [mul_neg, ← sub_eq_add_neg]
    congr 2
    exact congrArg x (Fin.ext (Nat.add_comm _ _))
  · simp only [dif_neg h]
    rw [add_comm]
    congr 2
    exact congrArg x (Fin.ext (show 16 + (d.val - 16) = d.val by omega))
theorem at5 (j : Fin 16) : after hostOps0_1 (after hostOps0 U) (Proc.devRef .tc main_v5) (ix1 j) = lin j := by
  after_reads_simp
  simp only [TRef.toBuf, TRef.ofBuf, cast_eq]
  pointwise
  after_reads_simp
  simp only [TRef.toBuf, TRef.ofBuf, cast_eq, id]
  pointwise
  rfl

theorem at34 (j : Fin 16) : after hostOps0_3 (after hostOps0_2 U) (Proc.devRef .tc main_v34) (ix1 j) = lin j := by
  after_reads_simp
  simp only [TRef.toBuf, TRef.ofBuf, cast_eq]
  pointwise
  after_reads_simp
  simp only [TRef.toBuf, TRef.ofBuf, cast_eq, id]
  pointwise
  rfl

theorem at32' (hU : ∀ j, U (Proc.devRef .tc main_v5) (ix1 j) = lin j) (b : Fin 4) (p : Fin 8256) (h : Fin 4) (d : Fin 32) :
    after hostOps0_2 U (Proc.devRef .tc main_v32) (ix4 b p h d)
      = rot (cosAt p.val) (sinAt p.val) (fun d => U (Proc.devRef .tc main_v4) (ix4 b p h d)) d := by
  refine Eq.trans ?_ (rot_of _ _ _ (fun j => Ideal.cos (ang p.val j)) (fun j => Ideal.sin (ang p.val j)) (fun _ => rfl) (fun _ => rfl) d)
  unfold ang
  simp only [← hU]
  after_reads_simp
  pointwise

theorem at61 (hU : ∀ j, U (Proc.devRef .tc main_v34) (ix1 j) = lin j) (b : Fin 4) (p : Fin 8256) (h : Fin 4) (d : Fin 32) :
    after hostOps0_4 U (Proc.devRef .tc main_v61) (ix4 b p h d)
      = rot (cosAt p.val) (sinAt p.val) (fun d => U (Proc.devRef .tc main_v33) (ix4 b p h d)) d := by
  refine Eq.trans ?_ (rot_of _ _ _ (fun j => Ideal.cos (ang p.val j)) (fun j => Ideal.sin (ang p.val j)) (fun _ => rfl) (fun _ => rfl) d)
  unfold ang
  simp only [← hU]
  after_reads_simp
  pointwise

theorem rowN_eq (n : Fin 129) (i : Fin 64) : (⟨n.val * 64 + i.val, by omega⟩ : Fin 8256) = rowN n.val i :=
  Fin.ext (by show n.val * 64 + i.val = (64 * n.val + i.val) % 8256; omega)

theorem at4 (b : Fin 4) (p : Fin 8256) (h : Fin 4) (d : Fin 32) :
    after hostOps0 U (Proc.devRef .tc main_v4) (ix4 b p h d) = U (Proc.devRef .tc main_arg2) (ix3 b p ⟨(at32 h d).val, by omega⟩) := by
  after_reads_simp
  pointwise
  rfl

theorem at33 (b : Fin 4) (p : Fin 8256) (h : Fin 4) (d : Fin 32) :
    after hostOps0_2 U (Proc.devRef .tc main_v33) (ix4 b p h d) = U (Proc.devRef .tc main_v1) (ix3 b p (at32 h d)) := by
  after_reads_simp
  pointwise
  rfl

theorem at1 (b : Fin 4) (p : Fin 8256) (d : Fin 128) :
    after hostOps0 U (Proc.devRef .tc main_v1) (ix3 b p d) = U (Proc.devRef .tc main_arg2) (ix3 b p ⟨128 + d.val, by omega⟩) := by
  after_reads_simp
  pointwise

theorem at2 (b : Fin 4) (p : Fin 8256) (d : Fin 256) :
    after hostOps0 U (Proc.devRef .tc main_v2) (ix3 b p d) = U (Proc.devRef .tc main_arg2) (ix3 b p ⟨256 + d.val, by omega⟩) := by
  after_reads_simp
  pointwise

theorem at3 (b : Fin 4) (p : Fin 8256) (d : Fin 256) :
    after hostOps0 U (Proc.devRef .tc main_v3) (ix3 b p d) = U (Proc.devRef .tc main_arg2) (ix3 b p ⟨512 + d.val, by omega⟩) := by
  after_reads_simp
  pointwise

theorem at64' (n : Fin 129) (b h : Fin 4) (i : Fin 64) (d : Fin 32) :
    after hostOps0_4 U (Proc.devRef .tc main_v64) (ix5 n b h i d) = U (Proc.devRef .tc main_v32) (ix4 b (rowN n.val i) h d) := by
  after_reads_simp
  pointwise
  rw [rowN_eq]

theorem at70 (n : Fin 129) (b h : Fin 4) (i : Fin 64) (e : Fin 64) :
    after hostOps0_4 U (Proc.devRef .tc main_v70) (ix5 n b h i e) = U (Proc.devRef .tc main_v2) (ix3 b (rowN n.val i) (at64 h e)) := by
  after_reads_simp
  pointwise
  rw [rowN_eq]
  rfl

theorem at68 (n : Fin 129) (b h : Fin 4) (i : Fin 64) (d : Fin 32) {z : EReal}
    (hz : after hostOps0_4 U (Proc.devRef .tc main_v61) (ix4 b (rowN n.val i) h d) = z) :
    after hostOps0_4 U (Proc.devRef .tc main_v68) (ix5 n b h i d) = z * Ideal.ofBits .f32 0x3E3504F3#32 := by
  rw [← hz, ← rowN_eq]
  after_reads_simp
  pointwise
  after_reads_simp
  pointwise

theorem one_sub_pow (h : Fin 4) : 1 -
        Ideal.pow (Ideal.ofBits FTy.f32 1073741824#32)
          (Ideal.ofBits FTy.f32 3231711232#32 - (FloatOps.sitofp (F := Ideal) FTy.f32 (BitVec.ofNat 32 h.val) : EReal))
      = ((1 - (2 : ℝ) ^ (-5 - (h.val : ℝ)) : ℝ) : EReal) := by
  have h2 : Ideal.ofBits FTy.f32 1073741824#32 = ((2 : ℝ) : EReal) := by
    simp [Ideal.ofBits, Ideal.ieee, -EReal.coe_mul]; norm_num
  have h5 : Ideal.ofBits FTy.f32 3231711232#32 = ((-5 : ℝ) : EReal) := by
    simp [Ideal.ofBits, Ideal.ieee, -EReal.coe_mul]; norm_num
  have hs : (FloatOps.sitofp (F := Ideal) FTy.f32 (BitVec.ofNat 32 h.val) : EReal) = ((h.val : ℝ) : EReal) := by
    show ((((BitVec.ofNat 32 h.val).toInt : ℝ)) : EReal) = _
    rw [show (BitVec.ofNat 32 h.val).toInt = (h.val : ℤ) by revert h; decide]; push_cast; rfl
  rw [h2, h5, hs, ← EReal.coe_sub]
  rfl

theorem at78 (h : Fin 4) :
    after hostOps0_4 U (Proc.devRef .tc main_v78) (ix1 h) = ((lg h : ℝ) : EReal) := by
  after_reads_simp
  pointwise
  rw [one_sub_pow]
  have h4 : h = 0 ∨ h = 1 ∨ h = 2 ∨ h = 3 := by revert h; decide
  have hp : (1 - (2 : ℝ) ^ (-5 - (h.val : ℝ)) : ℝ) = if h = 0 then 31 / 32 else if h = 1 then 63 / 64 else if h = 2 then 127 / 128 else 255 / 256 := by
    have : (-5 - (h.val : ℝ)) = ((-5 - (h.val : ℤ) : ℤ) : ℝ) := by push_cast; rfl
    rw [this, Real.rpow_intCast]
    rcases h4 with rfl | rfl | rfl | rfl <;> norm_num [Fin.ext_iff]
  rw [hp]
  unfold lg
  show (if _ then _ else _) = _
  rcases h4 with rfl | rfl | rfl | rfl <;> norm_num [Fin.ext_iff]

theorem sito (i : Fin 64) : (FloatOps.sitofp (F := Ideal) FTy.f32 (BitVec.ofNat 32 i.val) : EReal) = ((i.val : ℝ) : EReal) := by
  show ((((BitVec.ofNat 32 i.val).toInt : ℝ)) : EReal) = _
  rw [show (BitVec.ofNat 32 i.val).toInt = (i.val : ℤ) by revert i; decide +kernel]; push_cast; rfl

theorem at86 (i m : Fin 64) :
    after hostOps0_4 U (Proc.devRef .tc main_v86) (ix2 i m) = if m.val ≤ i.val then 1#1 else 0#1 := by
  after_reads_simp
  pointwise
  rw [sito, sito, ← EReal.coe_sub]
  by_cases hm : m.val ≤ i.val
  · have h0 : (0 : ℝ) ≤ (i.val : ℝ) - (m.val : ℝ) := by
      have : (m.val : ℝ) ≤ (i.val : ℝ) := by exact_mod_cast hm
      linarith
    have h1 : (0 : EReal) ≤ (((i.val : ℝ) - (m.val : ℝ) : ℝ) : EReal) := by exact_mod_cast h0
    simp only [if_pos hm, h1, decide_true]; rfl
  · have h0 : ¬ (0 : ℝ) ≤ (i.val : ℝ) - (m.val : ℝ) := by
      have : (i.val : ℝ) < (m.val : ℝ) := by exact_mod_cast (not_le.mp hm)
      linarith
    have h1 : ¬ (0 : EReal) ≤ (((i.val : ℝ) - (m.val : ℝ) : ℝ) : EReal) := by exact_mod_cast h0
    simp only [if_neg hm, h1, decide_false]; rfl

theorem at94 (h : Fin 4) (i m : Fin 64) :
    after hostOps0_4 U (Proc.devRef .tc main_v94) (ix3 h i m) = Ideal.exp (((lg h : ℝ) : EReal) * max (((i.val : ℝ) - (m.val : ℝ) : ℝ) : EReal) 0) := by
  rw [← at78 U]
  after_reads_simp
  pointwise
  rw [sito, sito, ← EReal.coe_sub]

theorem at79 : after hostOps0_4 U (Proc.devRef .tc main_v79) = sitofp (F := Ideal) .f32 (iotaInDim S64 32 0) := by
  after_reads_simp

theorem at95 (h : Fin 4) (i m : Fin 64) :
    after hostOps0_5 (after hostOps0_4 U) (Proc.devRef .tc main_v95) (ix3 h i m) = dIntra h i m := by
  have h86 := at86 U i m
  have h94 := at94 U h i m
  have hz : after hostOps0_4 U (Proc.devRef .tc main_cst_13) = constant (F := Ideal) S_ .f32 0x00000000#32 := by
    after_reads_simp
  generalize after hostOps0_4 U = V at h86 h94 hz ⊢
  after_reads_simp
  simp only [TRef.toBuf, TRef.ofBuf, cast_eq]
  pointwise
  rw [h86, h94, hz]
  unfold dIntra
  by_cases hm : m.val ≤ i.val
  · have h0 : (0 : ℝ) ≤ (i.val : ℝ) - (m.val : ℝ) := by
      have : (m.val : ℝ) ≤ (i.val : ℝ) := by exact_mod_cast hm
      linarith
    have h1 : (0 : EReal) ≤ (((i.val : ℝ) - (m.val : ℝ) : ℝ) : EReal) := by exact_mod_cast h0
    rw [if_pos hm, if_pos hm, max_eq_left h1]; rfl
  · rw [if_neg hm, if_neg hm]
    show Ideal.ofBits .f32 0x00000000#32 = 0
    simp [Ideal.ofBits, Ideal.ieee]

end Cert.ReferenceIdeal.Ret

end
-- ==== Proof.RetRefTrip.lean ====
module

public import proofs.«01_k».proof.Proof.RetRefEntry

@[expose] public section

set_option maxRecDepth 100000
set_option maxHeartbeats 4000000

/-!
The stretch that prepares the loop over the chunks in the reference, and one trip of the loop, element by element.
-/

noncomputable section

namespace Cert.ReferenceIdeal.Ret

open Cert.ReferenceIdeal Cert.ReferenceIdeal.Gen Cert.ReferenceIdeal.Value Cert.Ret
open Idealize.ShloMosaic Idealize.ShloMosaic.TcCoe Idealize.ShloMosaic.Tactic Idealize.ShloMosaic.StableHlo

variable (U : Valuation τ sig (Elt Ideal))

section
variable {Q K : Fin 129 → Fin 4 → Fin 4 → Fin 64 → Fin 32 → EReal} {V : Fin 129 → Fin 4 → Fin 4 → Fin 64 → Fin 64 → EReal}
  {D : Fin 4 → Fin 64 → Fin 64 → EReal}

theorem at100 (hQ : ∀ n b h i d, U (Proc.devRef .tc main_v64) (ix5 n b h i d) = Q n b h i d)
    (hK : ∀ n b h i d, U (Proc.devRef .tc main_v68) (ix5 n b h i d) = K n b h i d)
    (hV : ∀ n b h i e, U (Proc.devRef .tc main_v70) (ix5 n b h i e) = V n b h i e)
    (hD : ∀ h i m, U (Proc.devRef .tc main_v95) (ix3 h i m) = D h i m) (n : Fin 129) (b h : Fin 4) (i e : Fin 64) :
    after hostOps0_6 U (Proc.devRef .tc main_v100) (ix5 n b h i e)
      = ∑ m, ((∑ d, Q n b h i d * K n b h m d) * D h i m) * V n b h m e := by
  after_reads_simp
  pointwise
  simp only [hQ, hK, hV, hD]

theorem at131_0 (hQ : ∀ n b h i d, U (Proc.devRef .tc main_v64) (ix5 n b h i d) = Q n b h i d)
    (hL : ∀ h, U (Proc.devRef .tc main_v78) (ix1 h) = ((lg h : ℝ) : EReal))
    (hI : U (Proc.devRef .tc main_v79) = sitofp (F := Ideal) .f32 (iotaInDim S64 32 0))
    (n : Fin 129) (b h : Fin 4) (i : Fin 64) (d : Fin 32) :
    after hostOps0_6 U (Proc.devRef .tc main_v131_0) (ix5 n b h i d) = Q n b h i d * qDec h i := by
  after_reads_simp
  simp only [TRef.toBuf, TRef.ofBuf, cast_eq, id]
  pointwise
  rw [hQ, hL, hI]
  pointwise
  rw [sito]
  unfold qDec
  rw [EReal.coe_add, EReal.coe_one]

theorem at131_1 (hK : ∀ n b h i d, U (Proc.devRef .tc main_v68) (ix5 n b h i d) = K n b h i d)
    (hL : ∀ h, U (Proc.devRef .tc main_v78) (ix1 h) = ((lg h : ℝ) : EReal))
    (hI : U (Proc.devRef .tc main_v79) = sitofp (F := Ideal) .f32 (iotaInDim S64 32 0))
    (n : Fin 129) (b h : Fin 4) (i : Fin 64) (d : Fin 32) :
    after hostOps0_6 U (Proc.devRef .tc main_v131_1) (ix5 n b h i d) = K n b h i d * kDec h i := by
  after_reads_simp
  simp only [TRef.toBuf, TRef.ofBuf, cast_eq, id]
  pointwise
  rw [hK, hL, hI]
  pointwise
  have hc : Ideal.ofBits FTy.f32 1115422720#32 = ((63 : ℝ) : EReal) := by
    simp [Ideal.ofBits, Ideal.ieee, -EReal.coe_mul]; norm_num
  rw [sito, hc]
  unfold kDec
  rw [EReal.coe_sub]

theorem at131_2 : after hostOps0_6 U (Proc.devRef .tc main_v131_2) = U (Proc.devRef .tc main_v70) := by
  after_reads_simp
  rfl

theorem at131_3 (hL : ∀ h, U (Proc.devRef .tc main_v78) (ix1 h) = ((lg h : ℝ) : EReal)) (h : Fin 4) :
    after hostOps0_6 U (Proc.devRef .tc main_v131_3) (ix3 h 0 0) = gc h := by
  after_reads_simp
  simp only [TRef.toBuf, TRef.ofBuf, cast_eq, id]
  pointwise
  rw [hL]
  have hc : Ideal.ofBits FTy.f32 1115684864#32 = (64 : EReal) := by
    rw [show (64 : EReal) = ((64 : ℝ) : EReal) from rfl]
    simp [Ideal.ofBits, Ideal.ieee, -EReal.coe_mul]; norm_num
  rw [hc]
  rfl

theorem at131_4 : after hostOps0_6 U (Proc.devRef .tc main_v131_4) = constantI S_ 32 0#32 := by
  after_reads_simp
  rfl

theorem at131_5 (b h : Fin 4) (d : Fin 32) (e : Fin 64) :
    after hostOps0_6 U (Proc.devRef .tc main_v131_5) (ix4 b h d e) = (0 : EReal) := by
  after_reads_simp
  simp only [TRef.toBuf, TRef.ofBuf, cast_eq, id]
  pointwise
end

/-- The block the counter points at, of the chunked rows of width 32. -/
theorem slice32 {α : Type} (x : S129x4x4x64x32.Idx → α) (n : Fin 129) :
    Host.dynamicSlice S1x4x4x64x32 x (fun k => (((![constantI S_ 32 (BitVec.ofNat 32 n.val), constantI S_ 32 0#32, constantI S_ 32 0#32, constantI S_ 32 0#32, constantI S_ 32 0#32] : Fin 5 → (⟨S_, .i32⟩ : BufTy).Contents (Elt Ideal))) k (Shape.Idx.first h_S_)).toInt) sliceFits_S129x4x4x64x32_S1x4x4x64x32
      = fun j => x (ix5 n (j 1) (j 2) (j 3) (j 4)) := by
  funext j
  rw [Host.dynamicSlice_apply]
  have h0 : ∀ n : Fin 129, (BitVec.ofNat 32 n.val).toInt = (n.val : ℤ) := by decide +kernel
  congr 1
  funext a
  fin_cases a
  · apply Fin.ext
    have : (j 0).val < 1 := (j 0).isLt
    show Host.clampedStart _ _ _ _ 0 + (j 0).val = n.val
    rw [Host.clampedStart_of_le _ _ _ n.val (h0 n) (show n.val + 1 ≤ 129 by omega)]
    omega
  · apply Fin.ext
    show Host.clampedStart _ _ _ _ 1 + (j 1).val = (j 1).val
    rw [Host.clampedStart_of_le _ _ _ 0 rfl (show 0 + 4 ≤ 4 by omega), Nat.zero_add]
  · apply Fin.ext
    show Host.clampedStart _ _ _ _ 2 + (j 2).val = (j 2).val
    rw [Host.clampedStart_of_le _ _ _ 0 rfl (show 0 + 4 ≤ 4 by omega), Nat.zero_add]
  · apply Fin.ext
    show Host.clampedStart _ _ _ _ 3 + (j 3).val = (j 3).val
    rw [Host.clampedStart_of_le _ _ _ 0 rfl (show 0 + 64 ≤ 64 by omega), Nat.zero_add]
  · apply Fin.ext
    show Host.clampedStart _ _ _ _ 4 + (j 4).val = (j 4).val
    rw [Host.clampedStart_of_le _ _ _ 0 rfl (show 0 + 32 ≤ 32 by omega), Nat.zero_add]

/-- The block the counter points at, of the chunked rows of width 64. -/
theorem slice64 {α : Type} (x : S129x4x4x64x64.Idx → α) (n : Fin 129) :
    Host.dynamicSlice S1x4x4x64x64 x (fun k => (((![constantI S_ 32 (BitVec.ofNat 32 n.val), constantI S_ 32 0#32, constantI S_ 32 0#32, constantI S_ 32 0#32, constantI S_ 32 0#32] : Fin 5 → (⟨S_, .i32⟩ : BufTy).Contents (Elt Ideal))) k (Shape.Idx.first h_S_)).toInt) sliceFits_S129x4x4x64x64_S1x4x4x64x64
      = fun j => x (ix5 n (j 1) (j 2) (j 3) (j 4)) := by
  funext j
  rw [Host.dynamicSlice_apply]
  have h0 : ∀ n : Fin 129, (BitVec.ofNat 32 n.val).toInt = (n.val : ℤ) := by decide +kernel
  congr 1
  funext a
  fin_cases a
  · apply Fin.ext
    have : (j 0).val < 1 := (j 0).isLt
    show Host.clampedStart _ _ _ _ 0 + (j 0).val = n.val
    rw [Host.clampedStart_of_le _ _ _ n.val (h0 n) (show n.val + 1 ≤ 129 by omega)]
    omega
  · apply Fin.ext
    show Host.clampedStart _ _ _ _ 1 + (j 1).val = (j 1).val
    rw [Host.clampedStart_of_le _ _ _ 0 rfl (show 0 + 4 ≤ 4 by omega), Nat.zero_add]
  · apply Fin.ext
    show Host.clampedStart _ _ _ _ 2 + (j 2).val = (j 2).val
    rw [Host.clampedStart_of_le _ _ _ 0 rfl (show 0 + 4 ≤ 4 by omega), Nat.zero_add]
  · apply Fin.ext
    show Host.clampedStart _ _ _ _ 3 + (j 3).val = (j 3).val
    rw [Host.clampedStart_of_le _ _ _ 0 rfl (show 0 + 64 ≤ 64 by omega), Nat.zero_add]
  · apply Fin.ext
    show Host.clampedStart _ _ _ _ 4 + (j 4).val = (j 4).val
    rw [Host.clampedStart_of_le _ _ _ 0 rfl (show 0 + 64 ≤ 64 by omega), Nat.zero_add]

/-- The rows with the block the counter points at replaced. -/
theorem update64 {α : Type} (x : S129x4x4x64x64.Idx → α) (y : S1x4x4x64x64.Idx → α) (n k : Fin 129) (b h : Fin 4) (i e : Fin 64) :
    Host.dynamicUpdateSlice x y (fun k => (((![constantI S_ 32 (BitVec.ofNat 32 n.val), constantI S_ 32 0#32, constantI S_ 32 0#32, constantI S_ 32 0#32, constantI S_ 32 0#32] : Fin 5 → (⟨S_, .i32⟩ : BufTy).Contents (Elt Ideal))) k (Shape.Idx.first h_S_)).toInt) updateFits_S129x4x4x64x64_S1x4x4x64x64 (ix5 k b h i e)
      = if k = n then y (ix5 0 b h i e) else x (ix5 k b h i e) := by
  rw [Host.dynamicUpdateSlice_apply]
  have h0 : ∀ n : Fin 129, (BitVec.ofNat 32 n.val).toInt = (n.val : ℤ) := by decide +kernel
  have c0 := Host.clampedStart_of_le (s := S129x4x4x64x64) (t := S1x4x4x64x64) updateFits_S129x4x4x64x64_S1x4x4x64x64.1 (fun k => (((![constantI S_ 32 (BitVec.ofNat 32 n.val), constantI S_ 32 0#32, constantI S_ 32 0#32, constantI S_ 32 0#32, constantI S_ 32 0#32] : Fin 5 → (⟨S_, .i32⟩ : BufTy).Contents (Elt Ideal))) k (Shape.Idx.first h_S_)).toInt) 0 n.val (h0 n) (show n.val + 1 ≤ 129 by omega)
  have cs := fun (a : Fin 5) (ha : a ≠ 0) => Host.clampedStart_of_le (s := S129x4x4x64x64) (t := S1x4x4x64x64) updateFits_S129x4x4x64x64_S1x4x4x64x64.1 (fun k => (((![constantI S_ 32 (BitVec.ofNat 32 n.val), constantI S_ 32 0#32, constantI S_ 32 0#32, constantI S_ 32 0#32, constantI S_ 32 0#32] : Fin 5 → (⟨S_, .i32⟩ : BufTy).Contents (Elt Ideal))) k (Shape.Idx.first h_S_)).toInt) a 0
    (by fin_cases a <;> first | exact absurd rfl ha | rfl) (by fin_cases a <;> first | exact absurd rfl ha | exact le_of_eq (Nat.zero_add _))
  by_cases hk : k = n
  · subst hk
    rw [if_pos rfl, dif_pos]
    · congr 1
      funext a
      apply Fin.ext
      fin_cases a
      · show k.val - Host.clampedStart _ _ _ _ 0 = 0
        rw [c0]; omega
      · show b.val - Host.clampedStart _ _ _ _ 1 = b.val
        rw [cs 1 (by decide)]; omega
      · show h.val - Host.clampedStart _ _ _ _ 2 = h.val
        rw [cs 2 (by decide)]; omega
      · show i.val - Host.clampedStart _ _ _ _ 3 = i.val
        rw [cs 3 (by decide)]; omega
      · show e.val - Host.clampedStart _ _ _ _ 4 = e.val
        rw [cs 4 (by decide)]; omega
    · intro a
      fin_cases a
      · show Host.clampedStart _ _ _ _ 0 ≤ k.val ∧ k.val < Host.clampedStart _ _ _ _ 0 + 1
        rw [c0]; omega
      · show Host.clampedStart _ _ _ _ 1 ≤ b.val ∧ b.val < Host.clampedStart _ _ _ _ 1 + 4
        rw [cs 1 (by decide)]; omega
      · show Host.clampedStart _ _ _ _ 2 ≤ h.val ∧ h.val < Host.clampedStart _ _ _ _ 2 + 4
        rw [cs 2 (by decide)]; omega
      · show Host.clampedStart _ _ _ _ 3 ≤ i.val ∧ i.val < Host.clampedStart _ _ _ _ 3 + 64
        rw [cs 3 (by decide)]; omega
      · show Host.clampedStart _ _ _ _ 4 ≤ e.val ∧ e.val < Host.clampedStart _ _ _ _ 4 + 64
        rw [cs 4 (by decide)]; omega
  · rw [if_neg hk, dif_neg]
    intro ha
    have : Host.clampedStart _ _ _ _ 0 ≤ k.val ∧ k.val < Host.clampedStart _ _ _ _ 0 + 1 := ha 0
    rw [c0] at this
    exact hk (Fin.ext (by omega))

theorem step5 (V : Valuation τ sig (Elt Ideal)) (n : Fin 129) (b h : Fin 4) (d : Fin 32) (e : Fin 64)
    (hn : V (Proc.devRef .tc main_v131_4) = constantI S_ 32 (BitVec.ofNat 32 n.val)) {s g : EReal} {K : Fin 64 → EReal} {W : Fin 64 → EReal}
    (hs : V (Proc.devRef .tc main_v131_5) (ix4 b h d e) = s) (hg : V (Proc.devRef .tc main_v131_3) (ix3 h 0 0) = g)
    (hK : ∀ i, V (Proc.devRef .tc main_v131_1) (ix5 n b h i d) = K i) (hW : ∀ i, V (Proc.devRef .tc main_v131_2) (ix5 n b h i e) = W i) :
    step_main_v131_5 V (ix4 b h d e) = s * g + ∑ i, K i * W i := by
  unfold step_main_v131_5
  simp only [id]
  rw [hn]
  erw [slice32, slice64]
  pointwise
  simp only [hs, hg, hK, hW]

theorem step6 (V : Valuation τ sig (Elt Ideal)) (n k : Fin 129) (b h : Fin 4) (i : Fin 64) (e : Fin 64)
    (hn : V (Proc.devRef .tc main_v131_4) = constantI S_ 32 (BitVec.ofNat 32 n.val)) {s : EReal} {Q S : Fin 32 → EReal}
    (hs : V (Proc.devRef .tc main_v131_6) (ix5 k b h i e) = s)
    (hQ : ∀ d, V (Proc.devRef .tc main_v131_0) (ix5 n b h i d) = Q d) (hS : ∀ d, V (Proc.devRef .tc main_v131_5) (ix4 b h d e) = S d) :
    step_main_v131_6 V (ix5 k b h i e) = if k = n then ∑ d, Q d * S d else s := by
  unfold step_main_v131_6
  simp only [id]
  rw [hn]
  erw [update64]
  rw [hs]
  congr 1
  erw [slice32]
  pointwise
  simp only [hQ, hS]

end Cert.ReferenceIdeal.Ret

end
-- ==== Proof.RetRefPost.lean ====
module

public import proofs.«01_k».proof.Proof.RetRefFrame
public import proofs.«01_k».proof.Proof.RetWhole
public import Idealize.ShloMosaic.Lib.StableHlo.RunLoop
public import Idealize.ShloMosaic.Lib.StableHlo.RunRead
public import Idealize.ShloMosaic.Lib.Pipeline.ReadBack

@[expose] public section

set_option maxRecDepth 100000
set_option maxHeartbeats 4000000

/-!
The reference after its loop: the head norm, the gate, and the columns put behind the 768 others with the meta rows moved last.
-/

noncomputable section

namespace Cert.ReferenceIdeal.Ret

open Cert.ReferenceIdeal Cert.ReferenceIdeal.Gen Cert.ReferenceIdeal.Value Cert.Ret
open Idealize.ShloMosaic Idealize.ShloMosaic.TcCoe Idealize.ShloMosaic.Tactic Idealize.ShloMosaic.StableHlo

variable (U : Valuation τ sig (Elt Ideal))

theorem at159 (b : Fin 4) (p : Fin 8256) (x : Fin 256) {A B : Fin 64 → EReal} {g s : EReal}
    (hA : ∀ e, U (Proc.devRef .tc main_v100) (ix5 ⟨p.val / 64, by omega⟩ b ⟨x.val / 64, by omega⟩ ⟨p.val % 64, by omega⟩ e) = A e)
    (hB : ∀ e, U (Proc.devRef .tc main_v131_6) (ix5 ⟨p.val / 64, by omega⟩ b ⟨x.val / 64, by omega⟩ ⟨p.val % 64, by omega⟩ e) = B e)
    (hg : U (Proc.devRef .tc main_arg18) (ix1 x) = g) (hs : U (Proc.devRef .tc main_arg19) (ix1 x) = s) :
    after hostOps0_7 U (Proc.devRef .tc main_v159) (ix3 b p x) = gnorm (fun e => A e + B e) ⟨x.val % 64, by omega⟩ * g + s := by
  after_reads_simp
  pointwise
  simp only [hA, hB, hg, hs]
  have hc : Ideal.ofBits FTy.f32 1115684864#32 = (64 : EReal) := by
    rw [show (64 : EReal) = ((64 : ℝ) : EReal) from rfl]
    simp [Ideal.ofBits, Ideal.ieee, -EReal.coe_mul]; norm_num
  rw [hc]
  rfl

theorem at160 (b : Fin 4) (p : Fin 8256) (x : Fin 256) {g : EReal} (hg : U (Proc.devRef .tc main_v3) (ix3 b p x) = g) :
    after hostOps0_8 U (Proc.devRef .tc main_v160) (ix3 b p x) = g * Ideal.logistic g := by
  after_reads_simp
  simp only [TRef.toBuf, TRef.ofBuf, cast_eq, id]
  pointwise
  rw [hg]
  rfl

theorem at167 (b : Fin 4) (q p : Fin 8256) (x : Fin 256) (hp : p.val = if q.val < 8192 then 64 + q.val else q.val - 8192) {o g : EReal}
    (ho : U (Proc.devRef .tc main_v159) (ix3 b p x) = o) (hg : U (Proc.devRef .tc main_v160) (ix3 b p x) = g) :
    after hostOps0_9 U (Proc.devRef .tc main_v167) (ix3 b q ⟨768 + x.val, by omega⟩) = o * g := by
  after_reads_simp
  pointwise
  by_cases hq : q.val < 8192
  · rw [if_pos hq] at hp
    rw [dif_pos hq]
    after_reads_simp
    pointwise
    after_reads_simp
    pointwise
    rw [← ho, ← hg, show (⟨64 + q.val, by omega⟩ : Fin 8256) = p from Fin.ext hp.symm]
  · rw [if_neg hq] at hp
    rw [dif_neg hq]
    after_reads_simp
    pointwise
    after_reads_simp
    pointwise
    rw [← ho, ← hg, show (⟨q.val - 8192, by omega⟩ : Fin 8256) = p from Fin.ext hp.symm]

end Cert.ReferenceIdeal.Ret

end
-- ==== Proof.RetRef.lean ====
module

public import proofs.«01_k».proof.Proof.RetRefTrip
public import proofs.«01_k».proof.Proof.RetRefPost

@[expose] public section

set_option maxRecDepth 100000
set_option maxHeartbeats 4000000

/-!
The retention of the whole reference: what its loop is entered with, what it holds after every trip, and the columns it leaves,
all in terms of the packed argument.
-/

noncomputable section

namespace Cert.ReferenceIdeal.Ret

open Cert.ReferenceIdeal Cert.ReferenceIdeal.Gen Cert.ReferenceIdeal.Value Cert.Ret
open Idealize.ShloMosaic Idealize.ShloMosaic.TcCoe Idealize.ShloMosaic.Tactic Idealize.ShloMosaic.StableHlo

variable (m : (ℓ : Loc nD τ sig) → Buf (Elt Ideal) ℓ) (c : Dev nD)

/-- The packed argument the mixers read. -/
def argX (b : Fin 4) (r : Fin 8256) (j : Fin 768) : EReal := m ((c.tc : Thread nD τ).loc main_arg2) (ix3 b r j)
/-- The head norm's factors. -/
def argG (x : Fin 256) : EReal := m ((c.tc : Thread nD τ).loc main_arg18) (ix1 x)
/-- The head norm's offsets. -/
def argB (x : Fin 256) : EReal := m ((c.tc : Thread nD τ).loc main_arg19) (ix1 x)

/-- The contents at the start. -/
abbrev U0 : Valuation τ sig (Elt Ideal) := fun b => m (c, b)
/-- The contents before the last stretch in front of the loop. -/
def U5 : Valuation τ sig (Elt Ideal) :=
  after hostOps0_5 (after hostOps0_4 (after hostOps0_3 (after hostOps0_2 (after hostOps0_1 (after hostOps0 (U0 m c))))))

theorem entry_eq : entryContents preI m c = after hostOps0_6 (U5 m c) := by
  simp only [entryContents, afterL_cons, afterL_nil]
  rfl

theorem u64 (n : Fin 129) (b h : Fin 4) (i : Fin 64) (d : Fin 32) :
    U5 m c (Proc.devRef .tc main_v64) (ix5 n b h i d) = qAt (argX m c) b h n.val i d := by
  unfold U5
  rw [after_of_writes_sub hostOps0_5 _ hostOps0_5_writes (by decide), at64',
    after_of_writes_sub hostOps0_3 _ hostOps0_3_writes (by decide), at32' _ (at5 _)]
  unfold qAt
  rw [show (rowN n.val i).val = 64 * n.val + i.val by show (64 * n.val + i.val) % 8256 = _; omega]
  congr 1
  funext d
  rw [after_of_writes_sub hostOps0_1 _ hostOps0_1_writes (by decide), at4]
  rfl

theorem u68 (n : Fin 129) (b h : Fin 4) (i : Fin 64) (d : Fin 32) :
    U5 m c (Proc.devRef .tc main_v68) (ix5 n b h i d) = kAt (argX m c) b h n.val i d := by
  unfold U5
  rw [after_of_writes_sub hostOps0_5 _ hostOps0_5_writes (by decide), at68 _ n b h i d (at61 _ (at34 _) b (rowN n.val i) h d)]
  unfold kAt
  rw [show (rowN n.val i).val = 64 * n.val + i.val by show (64 * n.val + i.val) % 8256 = _; omega]
  congr 2
  funext d
  rw [after_of_writes_sub hostOps0_3 _ hostOps0_3_writes (by decide), at33,
    after_of_writes_sub hostOps0_1 _ hostOps0_1_writes (by decide), at1]
  rfl

theorem u70 (n : Fin 129) (b h : Fin 4) (i : Fin 64) (e : Fin 64) :
    U5 m c (Proc.devRef .tc main_v70) (ix5 n b h i e) = vAt (argX m c) b h n.val i e := by
  unfold U5
  rw [after_of_writes_sub hostOps0_5 _ hostOps0_5_writes (by decide), at70,
    after_of_writes_sub hostOps0_3 _ hostOps0_3_writes (by decide), after_of_writes_sub hostOps0_2 _ hostOps0_2_writes (by decide),
    after_of_writes_sub hostOps0_1 _ hostOps0_1_writes (by decide), at2]
  rfl

theorem u78 (h : Fin 4) : U5 m c (Proc.devRef .tc main_v78) (ix1 h) = ((lg h : ℝ) : EReal) := by
  unfold U5
  rw [after_of_writes_sub hostOps0_5 _ hostOps0_5_writes (by decide), at78]

theorem u79 : U5 m c (Proc.devRef .tc main_v79) = sitofp (F := Ideal) .f32 (iotaInDim S64 32 0) := by
  unfold U5
  rw [after_of_writes_sub hostOps0_5 _ hostOps0_5_writes (by decide), at79]

theorem e3 (b : Fin 4) (p : Fin 8256) (x : Fin 256) :
    entryContents preI m c (Proc.devRef .tc main_v3) (ix3 b p x) = argX m c b p ⟨512 + x.val, by omega⟩ := by
  rw [entry_eq]
  unfold U5
  rw [after_of_writes_sub hostOps0_6 _ hostOps0_6_writes (by decide),
    after_of_writes_sub hostOps0_5 _ hostOps0_5_writes (by decide), after_of_writes_sub hostOps0_4 _ hostOps0_4_writes (by decide),
    after_of_writes_sub hostOps0_3 _ hostOps0_3_writes (by decide), after_of_writes_sub hostOps0_2 _ hostOps0_2_writes (by decide),
    after_of_writes_sub hostOps0_1 _ hostOps0_1_writes (by decide), at3]
  rfl

theorem e100 (n : Fin 129) (b h : Fin 4) (i : Fin 64) (e : Fin 64) :
    entryContents preI m c (Proc.devRef .tc main_v100) (ix5 n b h i e)
      = ∑ j, ((∑ d, qAt (argX m c) b h n.val i d * kAt (argX m c) b h n.val j d) * dIntra h i j) * vAt (argX m c) b h n.val j e := by
  rw [entry_eq]
  exact at100 (U5 m c) (Q := fun n b h i d => qAt (argX m c) b h n.val i d) (K := fun n b h i d => kAt (argX m c) b h n.val i d)
    (V := fun n b h i e => vAt (argX m c) b h n.val i e) (D := dIntra) (u64 m c) (u68 m c) (u70 m c) (fun h i j => at95 _ h i j) n b h i e

/-- What the loop holds before trip `k`. -/
structure Holds (V : Valuation τ sig (Elt Ideal)) (k : ℕ) : Prop where
  rows : ∀ (n : Fin 129) b h i d, V (Proc.devRef .tc main_v131_0) (ix5 n b h i d) = qAt (argX m c) b h n.val i d * qDec h i
  keys : ∀ (n : Fin 129) b h i d, V (Proc.devRef .tc main_v131_1) (ix5 n b h i d) = kAt (argX m c) b h n.val i d * kDec h i
  vals : ∀ (n : Fin 129) b h i e, V (Proc.devRef .tc main_v131_2) (ix5 n b h i e) = vAt (argX m c) b h n.val i e
  decay : ∀ h, V (Proc.devRef .tc main_v131_3) (ix3 h 0 0) = gc h
  count : V (Proc.devRef .tc main_v131_4) = constantI S_ 32 (BitVec.ofNat 32 k)
  carry : ∀ b h d e, V (Proc.devRef .tc main_v131_5) (ix4 b h d e) = sAt (argX m c) b h k d e
  out : ∀ (n : Fin 129) b h i e, n.val < k → V (Proc.devRef .tc main_v131_6) (ix5 n b h i e)
    = ∑ d, (qAt (argX m c) b h n.val i d * qDec h i) * sAt (argX m c) b h n.val d e

theorem holds_entry : Holds m c (entryContents preI m c) 0 := by
  rw [entry_eq]
  constructor
  · exact at131_0 (U5 m c) (Q := fun n b h i d => qAt (argX m c) b h n.val i d) (u64 m c) (u78 m c) (u79 m c)
  · exact at131_1 (U5 m c) (K := fun n b h i d => kAt (argX m c) b h n.val i d) (u68 m c) (u78 m c) (u79 m c)
  · intro n b h i e; rw [at131_2, u70]
  · exact at131_3 (U5 m c) (u78 m c)
  · exact at131_4 (U5 m c)
  · intro b h d e; rw [at131_5]; rfl
  · intro n b h i e hn; omega

theorem holds_step {V : Valuation τ sig (Elt Ideal)} {k : ℕ} (hk : k < 129) (H : Holds m c V k) : Holds m c (STEP V) (k + 1) := by
  constructor
  · intro n b h i d; rw [STEP_main_v131_0]; exact H.rows n b h i d
  · intro n b h i d; rw [STEP_main_v131_1]; exact H.keys n b h i d
  · intro n b h i e; rw [STEP_main_v131_2]; exact H.vals n b h i e
  · intro h; rw [STEP_main_v131_3]; exact H.decay h
  · rw [STEP_main_v131_4]
    unfold step_main_v131_4
    rw [H.count]
    funext j
    show BitVec.ofNat 32 k + 1#32 = BitVec.ofNat 32 (k + 1)
    exact (BitVec.ofNat_add ..).symm
  · intro b h d e
    rw [STEP_main_v131_5, sAt_succ]
    exact step5 V ⟨k, hk⟩ b h d e H.count (H.carry b h d e) (H.decay h) (fun i => H.keys ⟨k, hk⟩ b h i d) (fun i => H.vals ⟨k, hk⟩ b h i e)
  · intro n b h i e hn
    rw [STEP_main_v131_6, step6 V ⟨k, hk⟩ n b h i e H.count rfl (fun d => H.rows ⟨k, hk⟩ b h i d) (fun d => H.carry b h d e)]
    by_cases hnk : n = ⟨k, hk⟩
    · rw [if_pos hnk, hnk]
    · rw [if_neg hnk]
      exact H.out n b h i e (by have : n.val ≠ k := fun q => hnk (Fin.ext q); omega)

theorem holds_iter : ∀ k, k ≤ 129 → Holds m c (STEP^[k] (entryContents preI m c)) k
  | 0, _ => holds_entry m c
  | k + 1, h => by
    rw [Function.iterate_succ_apply']
    exact holds_step m c (by omega) (holds_iter k (by omega))

theorem end6 (n : Fin 129) (b h : Fin 4) (i e : Fin 64) :
    atK m 129 c (Proc.devRef .tc main_v131_6) (ix5 n b h i e)
      = ∑ d, (qAt (argX m c) b h n.val i d * qDec h i) * sAt (argX m c) b h n.val d e := by
  rw [atK_agree m c 129 main_v131_6 (by decide)]
  exact (holds_iter m c 129 le_rfl).out n b h i e n.isLt

/-- The reference's columns of the retention. -/
theorem final167 (t : Fin 129) (b : Fin 4) (i : Fin 64) (h : Fin 4) (e : Fin 64) :
    finalContents condOps preI bodyI postI 129 m c (Proc.devRef .tc main_v167)
        (ix3 b ⟨64 * ((t.val + 128) % 129) + i.val, by omega⟩ ⟨768 + (at64 h e).val, by omega⟩)
      = outAt (argX m c) b h (argG m c) (argB m c) t.val i e := by
  have hf : finalContents condOps preI bodyI postI 129 m c
      = after hostOps0_9 (after hostOps0_8 (after hostOps0_7 (after condOps (atK m 129 c)))) := by
    rfl
  rw [hf]
  have hx : (⟨(at64 h e).val / 64, by omega⟩ : Fin 4) = h := Fin.ext (at64_div h e)
  have hx' : (⟨(at64 h e).val % 64, by omega⟩ : Fin 64) = e := Fin.ext (at64_mod h e)
  have hp : (rowN t.val i).val = 64 * t.val + i.val := by show (64 * t.val + i.val) % 8256 = _; omega
  have hp1 : (⟨(rowN t.val i).val / 64, by omega⟩ : Fin 129) = t := Fin.ext (by show (rowN t.val i).val / 64 = t.val; omega)
  have hp2 : (⟨(rowN t.val i).val % 64, by omega⟩ : Fin 64) = i := Fin.ext (by show (rowN t.val i).val % 64 = i.val; omega)
  rw [at167 _ b _ (rowN t.val i) (at64 h e) (by
    rw [hp]
    show _ = if 64 * ((t.val + 128) % 129) + i.val < 8192 then 64 + (64 * ((t.val + 128) % 129) + i.val) else 64 * ((t.val + 128) % 129) + i.val - 8192
    split <;> omega) rfl rfl]
  rw [after_of_writes_sub hostOps0_8 _ hostOps0_8_wrote (by decide)]
  rw [at160 (after hostOps0_7 (after condOps (atK m 129 c))) b (rowN t.val i) (at64 h e) (g := gAt (argX m c) b h t.val i e) (by
    rw [after_of_writes_sub hostOps0_7 _ hostOps0_7_wrote (by decide), after_of_writes_sub condOps _ condOps_writes (by decide),
      atK_keeps m c (by decide +kernel), e3]
    rfl)]
  rw [at159 (after condOps (atK m 129 c)) b (rowN t.val i) (at64 h e)
    (A := fun e => ∑ j, ((∑ d, qAt (argX m c) b h t.val i d * kAt (argX m c) b h t.val j d) * dIntra h i j) * vAt (argX m c) b h t.val j e)
    (B := fun e => ∑ d, (qAt (argX m c) b h t.val i d * qDec h i) * sAt (argX m c) b h t.val d e)
    (g := argG m c (at64 h e)) (s := argB m c (at64 h e))
    (fun e => by
      rw [hx, hp1, hp2, after_of_writes_sub condOps _ condOps_writes (by decide), atK_keeps m c (by decide +kernel), e100])
    (fun e => by
      rw [hx, hp1, hp2, after_of_writes_sub condOps _ condOps_writes (by decide), end6])
    (by
      rw [after_of_writes_sub condOps _ condOps_writes (by decide), atK_keeps m c (by decide +kernel)]
      exact congrFun (pre_keeps _ (by decide +kernel)) _)
    (by
      rw [after_of_writes_sub condOps _ condOps_writes (by decide), atK_keeps m c (by decide +kernel)]
      exact congrFun (pre_keeps _ (by decide +kernel)) _)]
  rw [hx']
  rfl

end Cert.ReferenceIdeal.Ret

end
-- ==== Proof.RetClaim.lean ====
/-
  The mixers' call against its reference, on the retention's columns.
-/
module

public import proofs.«01_k».proof.Defs
public import proofs.«01_k».proof.Proof.RetArray
public import proofs.«01_k».proof.Proof.RetRef
public import Idealize.ShloMosaic.Lib.Quiescent

@[expose] public section

set_option maxRecDepth 100000

noncomputable section

namespace Cert.Proof.Ret

open Idealize.ShloMosaic Idealize.ShloMosaic.TcCoe Idealize.SL.Sem Cert.Ret

/-- The side condition of the mask. -/
theorem mask_facts : Cert.On_retention_columns.Facts := ⟨by decide⟩

theorem word_col : ∀ x : Fin 1024, IntOp.cmpi .sge (BitVec.ofNat 32 x.val) 768#32 = 1#1 → 768 ≤ x.val := by decide +kernel

/-- Every row of the array is a row of one chunk in the kernel's order. -/
theorem exists_row (p : Fin 8256) : ∃ (t : Fin 129) (i : Fin 64), p.val = 64 * ((t.val + 128) % 129) + i.val :=
  ⟨⟨(p.val / 64 + 1) % 129, Nat.mod_lt _ (by decide)⟩, ⟨p.val % 64, Nat.mod_lt _ (by decide)⟩, by
    show p.val = 64 * (((p.val / 64 + 1) % 129 + 128) % 129) + p.val % 64
    omega⟩

/-- Kernel and reference leave the same in every column from 768 on. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (i : (⟨3, ![4, 8256, 1024]⟩ : Shape).Idx) (hi : 768 ≤ (i 2).val) :
    StableHlo.finalContents Cert.ReferenceIdeal.Value.condOps Cert.ReferenceIdeal.Value.preI Cert.ReferenceIdeal.Value.bodyI Cert.ReferenceIdeal.Value.postI 129 m' c
        (Proc.devRef .tc Cert.ReferenceIdeal.main_v167) i
      = (Cert.Mixers.dats (F := Ideal) m 0 c).arrAt 22 Cert.KernelIdeal.cfg0.N i := by
  obtain ⟨t, r, hp⟩ := exists_row (i 1)
  obtain ⟨h, e, hx⟩ := exists_at64 ⟨(i 2).val - 768, by have : (i 2).val < 1024 := (i 2).isLt; omega⟩
  have hx' : (i 2).val = 768 + (at64 h e).val := by rw [← hx]; show _ = 768 + ((i 2).val - 768); omega
  have hi3 : i = ix3 (i 0) ⟨64 * ((t.val + 128) % 129) + r.val, by omega⟩ ⟨768 + (at64 h e).val, by omega⟩ := by
    funext a
    fin_cases a
    · rfl
    · exact Fin.ext hp
    · exact Fin.ext hx'
  rw [hi3]
  refine (Cert.ReferenceIdeal.Ret.final167 m' c t (i 0) r h e).trans (Eq.trans ?_ (Cert.Mixers.final22 m c t (i 0) r h e).symm)
  have e2 : Cert.ReferenceIdeal.Ret.argX m' c = Cert.Mixers.argX m c := by
    funext b p j; exact congrFun h2 _
  have e18 : Cert.ReferenceIdeal.Ret.argG m' c = Cert.Mixers.argG m c := by
    funext j; exact congrFun h18 _
  have e19 : Cert.ReferenceIdeal.Ret.argB m' c = Cert.Mixers.argB m c := by
    funext j; exact congrFun h19 _
  rw [e2, e18, e19]

/-- Over the extended reals the call and the reference leave the same columns of the retention. -/
theorem algebraic : @Cert.algebraic_KernelIdeal_ReferenceIdeal_on_retention_columns Cert.KernelIdeal.Gen.facts Cert.ReferenceIdeal.Gen.facts mask_facts := by
  intro m ρ m' ρ' _ hagree
  refine ⟨fun c => (Cert.Mixers.dats (F := Ideal) m 0 c).arrAt 22 Cert.KernelIdeal.cfg0.N, ?_, ?_⟩
  · exact (θ_run Cert.KernelIdeal.defs _ _).mono
      (fun _ h c => ⟨fun i _ => congrFun ((h.2 c).1 22) i, h.1 c⟩)
      (θ_run_and (Cert.Mixers.unchanged (F := Ideal) m ρ) (Cert.Mixers.run_main (F := Ideal) m ρ))
  refine (θ_run Cert.ReferenceIdeal.defs _ _).mono (fun _ h c => ⟨fun i hm => (congrFun (h c Cert.ReferenceIdeal.main_v167 rfl) i).trans ?_,
    (h c Cert.ReferenceIdeal.main_arg0 rfl).trans (Cert.ReferenceIdeal.Ret.argument m' c (by decide +kernel) (by decide +kernel) (by decide +kernel) (by decide +kernel)),
    (h c Cert.ReferenceIdeal.main_arg1 rfl).trans (Cert.ReferenceIdeal.Ret.argument m' c (by decide +kernel) (by decide +kernel) (by decide +kernel) (by decide +kernel)),
    (h c Cert.ReferenceIdeal.main_arg2 rfl).trans (Cert.ReferenceIdeal.Ret.argument m' c (by decide +kernel) (by decide +kernel) (by decide +kernel) (by decide +kernel)),
    (h c Cert.ReferenceIdeal.main_arg3 rfl).trans (Cert.ReferenceIdeal.Ret.argument m' c (by decide +kernel) (by decide +kernel) (by decide +kernel) (by decide +kernel)),
    (h c Cert.ReferenceIdeal.main_arg4 rfl).trans (Cert.ReferenceIdeal.Ret.argument m' c (by decide +kernel) (by decide +kernel) (by decide +kernel) (by decide +kernel)),
    (h c Cert.ReferenceIdeal.main_arg5 rfl).trans (Cert.ReferenceIdeal.Ret.argument m' c (by decide +kernel) (by decide +kernel) (by decide +kernel) (by decide +kernel)),
    (h c Cert.ReferenceIdeal.main_arg6 rfl).trans (Cert.ReferenceIdeal.Ret.argument m' c (by decide +kernel) (by decide +kernel) (by decide +kernel) (by decide +kernel)),
    (h c Cert.ReferenceIdeal.main_arg7 rfl).trans (Cert.ReferenceIdeal.Ret.argument m' c (by decide +kernel) (by decide +kernel) (by decide +kernel) (by decide +kernel)),
    (h c Cert.ReferenceIdeal.main_arg8 rfl).trans (Cert.ReferenceIdeal.Ret.argument m' c (by decide +kernel) (by decide +kernel) (by decide +kernel) (by decide +kernel)),
    (h c Cert.ReferenceIdeal.main_arg9 rfl).trans (Cert.ReferenceIdeal.Ret.argument m' c (by decide +kernel) (by decide +kernel) (by decide +kernel) (by decide +kernel)),
    (h c Cert.ReferenceIdeal.main_arg10 rfl).trans (Cert.ReferenceIdeal.Ret.argument m' c (by decide +kernel) (by decide +kernel) (by decide +kernel) (by decide +kernel)),
    (h c Cert.ReferenceIdeal.main_arg11 rfl).trans (Cert.ReferenceIdeal.Ret.argument m' c (by decide +kernel) (by decide +kernel) (by decide +kernel) (by decide +kernel)),
    (h c Cert.ReferenceIdeal.main_arg12 rfl).trans (Cert.ReferenceIdeal.Ret.argument m' c (by decide +kernel) (by decide +kernel) (by decide +kernel) (by decide +kernel)),
    (h c Cert.ReferenceIdeal.main_arg13 rfl).trans (Cert.ReferenceIdeal.Ret.argument m' c (by decide +kernel) (by decide +kernel) (by decide +kernel) (by decide +kernel)),
    (h c Cert.ReferenceIdeal.main_arg14 rfl).trans (Cert.ReferenceIdeal.Ret.argument m' c (by decide +kernel) (by decide +kernel) (by decide +kernel) (by decide +kernel)),
    (h c Cert.ReferenceIdeal.main_arg15 rfl).trans (Cert.ReferenceIdeal.Ret.argument m' c (by decide +kernel) (by decide +kernel) (by decide +kernel) (by decide +kernel)),
    (h c Cert.ReferenceIdeal.main_arg16 rfl).trans (Cert.ReferenceIdeal.Ret.argument m' c (by decide +kernel) (by decide +kernel) (by decide +kernel) (by decide +kernel)),
    (h c Cert.ReferenceIdeal.main_arg17 rfl).trans (Cert.ReferenceIdeal.Ret.argument m' c (by decide +kernel) (by decide +kernel) (by decide +kernel) (by decide +kernel)),
    (h c Cert.ReferenceIdeal.main_arg18 rfl).trans (Cert.ReferenceIdeal.Ret.argument m' c (by decide +kernel) (by decide +kernel) (by decide +kernel) (by decide +kernel)),
    (h c Cert.ReferenceIdeal.main_arg19 rfl).trans (Cert.ReferenceIdeal.Ret.argument m' c (by decide +kernel) (by decide +kernel) (by decide +kernel) (by decide +kernel))⟩)
    (Cert.ReferenceIdeal.Value.run_fold (F := Ideal) m' ρ')
  obtain ⟨_, _, h2, _, _, _, _, _, _, _, _, _, _, _, _, _, _, _, h18, h19⟩ := hagree c
  refine agree m m' c h2 h18 h19 i (word_col (i 2) ?_)
  exact hm

end Cert.Proof.Ret

end
-- ==== Proof.lean ====
/-
  The certificate's claim: for each of the four calls — the first feed-forward, the projection to the mixers, the three
  mixers, and the output projection with the second feed-forward — the call and its idealization run and keep their
  arguments and the reference does; over the extended reals call and reference leave the same arrays, the mixers' in the
  retention's columns.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Ffn1Claim
public import proofs.«01_k».proof.Proof.Ffn2Claim
public import proofs.«01_k».proof.Proof.ProjClaim
public import proofs.«01_k».proof.Proof.Gen.Kernel
public import proofs.«01_k».proof.Proof.Gen.KernelIdeal
public import proofs.«01_k».proof.Proof.Gen.ReferenceIdeal
public import proofs.«01_k».proof.Proof.MixersFrame
public import proofs.«01_k».proof.Proof.MixersBitsFrame
public import proofs.«01_k».proof.Proof.RetRefFrame
public import proofs.«01_k».proof.Proof.RetClaim

@[expose] public section

noncomputable section

namespace Cert.Proof

open Idealize.ShloMosaic

/-- The eight named constants are the reals the kernel's rounded literals stand for. -/
theorem preserves_mixers : Cert.preserves_Kernel_KernelIdeal :=
  ⟨IdealRules.named_const.statement Cert.KernelIdeal.κ "log_gamma3" .f32 0xBB80402B#32 ((Real.log (255 / 256) : ℝ) : EReal) rfl,
    IdealRules.named_const.statement Cert.KernelIdeal.κ "log_gamma2" .f32 0xBC0080AC#32 ((Real.log (127 / 128) : ℝ) : EReal) rfl,
    IdealRules.named_const.statement Cert.KernelIdeal.κ "log_gamma1" .f32 0xBC8102B3#32 ((Real.log (63 / 64) : ℝ) : EReal) rfl,
    IdealRules.named_const.statement Cert.KernelIdeal.κ "log_gamma0" .f32 0xBD020AEC#32 ((Real.log (31 / 32) : ℝ) : EReal) rfl,
    IdealRules.named_const.statement Cert.KernelIdeal.κ "gamma_chunk3" .f32 0x3F474682#32 ((10436900611138725869172867285320967420499386398293333045633692797639857278619179096472846825397665828940838712011497657616843071082257665693759918212890625 / 13407807929942597099574024998205846127479365820592393377723561443721764030073546976801874298166903427690031858186486050853753882811946569946433649006084096 : ℝ) : EReal) rfl,
    IdealRules.named_const.statement Cert.KernelIdeal.κ "gamma_chunk2" .f32 0x3F1AF7A1#32 ((439985273984774139364885786774155225074372621425249766976946157772109425125407741241214744259687760072793219732307971501512893104906241 / 726838724295606890549323807888004534353641360687318060281490199180639288113397923326191050713763565560762521606266177933534601628614656 : ℝ) : EReal) rfl,
    IdealRules.named_const.statement Cert.KernelIdeal.κ "gamma_chunk1" .f32 0x3EBADF84#32 ((14381201289858923833733732277241427911251598557516928831287151963615866190845260542210496569296551598609485715599361 / 39402006196394479212279040100143613805079739270465446667948293404245721771497210611414266254884915640806627990306816 : ℝ) : EReal) rfl,
    IdealRules.named_const.statement Cert.KernelIdeal.κ "gamma_chunk0" .f32 0x3E063AE5#32 ((279993793990258235750468749959300213014699042596341116563305503247751586492770004816505534904321 / 2135987035920910082395021706169552114602704522356652769947041607822219725780640550022962086936576 : ℝ) : EReal) rfl⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Proof.Ret.mask_facts,
    fun m ρ _ => Cert.MixersBits.frame m ρ, fun m ρ _ => Cert.Mixers.frame m ρ, Cert.ReferenceIdeal.Ret.frame_reference,
    fun m ρ _ => Cert.Kernel2.Gen.frame m ρ, fun m ρ _ => Cert.Kernel2Ideal.Gen.frame m ρ, Ffn2.frame_reference,
    fun m ρ _ => Cert.Kernel3.Gen.frame m ρ, fun m ρ _ => Cert.Kernel3Ideal.Gen.frame m ρ, Ffn.frame_reference,
    fun m ρ _ => Cert.Kernel4.Gen.frame m ρ, fun m ρ _ => Cert.Kernel4Ideal.Gen.frame m ρ, Proj.frame_reference,
    preserves_mixers, Cert.Proof.Ret.algebraic, trivial, Ffn2.algebraic, trivial, Ffn.algebraic, trivial, Proj.algebraic⟩

end Cert.Proof

end
